-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 8192]⟩ ⟨2, ![4096, 8192]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S4096x8192 : Shape := ⟨2, ![4096, 8192]⟩
abbrev S1 : Shape := ⟨1, ![1]⟩
abbrev S256x8192 : Shape := ⟨2, ![256, 8192]⟩
abbrev S16x256x256 : Shape := ⟨3, ![16, 256, 256]⟩
abbrev S2x256x8192 : Shape := ⟨3, ![2, 256, 8192]⟩
abbrev S16 : Shape := ⟨1, ![16]⟩
abbrev S2x1 : Shape := ⟨2, ![2, 1]⟩
abbrev S_ : Shape := ⟨0, ![]⟩
abbrev S1x256x256 : Shape := ⟨3, ![1, 256, 256]⟩
abbrev S256x256 : Shape := ⟨2, ![256, 256]⟩
abbrev S1x1 : Shape := ⟨2, ![1, 1]⟩
abbrev S1x256x8192 : Shape := ⟨3, ![1, 256, 8192]⟩

abbrev nBuf : Space → Nat
  | .hbm => 5
  | .vmem => 5
  | .smem => 2
  | _ => 0

abbrev bufTy : (tb : Table) → Fin (tcTables nBuf tb) → BufTy
  | .hbm, ⟨0, _⟩ => ⟨S4096x256, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S256x8192, .f32⟩
  | .local _ .vmem, ⟨0, _⟩ => ⟨S4096x256, .f32⟩
  | .local _ .vmem, ⟨1, _⟩ => ⟨S256x8192, .f32⟩
  | .local _ .vmem, ⟨2, _⟩ => ⟨S4096x256, .fp8e4m3⟩
  | .local _ .vmem, ⟨3, _⟩ => ⟨S16x256x256, .fp8e4m3⟩
  | .local _ .vmem, ⟨4, _⟩ => ⟨S2x256x8192, .f32⟩
  | .local _ .smem, ⟨0, _⟩ => ⟨S1, .f32⟩
  | .local _ .smem, ⟨1, _⟩ => ⟨S1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) (c1_i32_139 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v205 : BitVec 32 := Scalar.addi v2 c1_i32_139
  let c16_i32_140 : BitVec 32 := 16#32
  let c0_i32_141 : BitVec 32 := 0#32
  let v206 : BitVec 1 := Scalar.cmpi .eq c16_i32_140 c0_i32_141
  let c1_i32_142 : BitVec 32 := 1#32
  let v207 : BitVec 32 := Scalar.select v206 c1_i32_142 c16_i32_140
  let v208 : BitVec 32 := Scalar.remsi v205 v207
  let c0_i32_144 : BitVec 32 := 0#32
  let v210 : BitVec 1 := Scalar.cmpi .slt v208 c0_i32_144
  let c0_i32_145 : BitVec 32 := 0#32
  let v211 : BitVec 1 := Scalar.cmpi .slt v207 c0_i32_145
  let v212 : BitVec 1 := Scalar.xori v210 v211
  let c0_i32_143 : BitVec 32 := 0#32
  let v209 : BitVec 1 := Scalar.cmpi .ne v208 c0_i32_143
  let v213 : BitVec 1 := Scalar.andi v212 v209
  let v214 : BitVec 32 := Scalar.addi v208 v207
  let v215 : BitVec 32 := Scalar.select v213 v214 v208
  let c256_i32 : BitVec 32 := 256#32
  let v216 : BitVec 32 := Scalar.muli v215 c256_i32
  let c0_i32_153 : BitVec 32 := 0#32
  ![v216.toNat, 0]
def k0_dev16 (d0 : Dev nD) : Nat :=
  let c0_i32_150 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_139 : BitVec 32 := 1#32
  let v205 : BitVec 32 := Scalar.addi v2 c1_i32_139
  let c16_i32_140 : BitVec 32 := 16#32
  let c0_i32_141 : BitVec 32 := 0#32
  let v206 : BitVec 1 := Scalar.cmpi .eq c16_i32_140 c0_i32_141
  let c1_i32_142 : BitVec 32 := 1#32
  let v207 : BitVec 32 := Scalar.select v206 c1_i32_142 c16_i32_140
  let v208 : BitVec 32 := Scalar.remsi v205 v207
  let c0_i32_144 : BitVec 32 := 0#32
  let v210 : BitVec 1 := Scalar.cmpi .slt v208 c0_i32_144
  let c0_i32_145 : BitVec 32 := 0#32
  let v211 : BitVec 1 := Scalar.cmpi .slt v207 c0_i32_145
  let v212 : BitVec 1 := Scalar.xori v210 v211
  let c0_i32_143 : BitVec 32 := 0#32
  let v209 : BitVec 1 := Scalar.cmpi .ne v208 c0_i32_143
  let v213 : BitVec 1 := Scalar.andi v212 v209
  let v214 : BitVec 32 := Scalar.addi v208 v207
  let v215 : BitVec 32 := Scalar.select v213 v214 v208
  let c1_i32_149 : BitVec 32 := 1#32
  let v217 : BitVec 32 := Scalar.muli v215 c1_i32_149
  let v218 : BitVec 32 := Scalar.addi c0_i32_150 v217
  v218.toNat
def k0_dev17 (d0 : Dev nD) : Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_154 : BitVec 32 := 2#32
  let v226 : BitVec 32 := Scalar.addi v2 c2_i32_154
  let c16_i32_155 : BitVec 32 := 16#32
  let c0_i32_156 : BitVec 32 := 0#32
  let v227 : BitVec 1 := Scalar.cmpi .eq c16_i32_155 c0_i32_156
  let c1_i32_157 : BitVec 32 := 1#32
  let v228 : BitVec 32 := Scalar.select v227 c1_i32_157 c16_i32_155
  let v229 : BitVec 32 := Scalar.remsi v226 v228
  let c0_i32_159 : BitVec 32 := 0#32
  let v231 : BitVec 1 := Scalar.cmpi .slt v229 c0_i32_159
  let c0_i32_160 : BitVec 32 := 0#32
  let v232 : BitVec 1 := Scalar.cmpi .slt v228 c0_i32_160
  let v233 : BitVec 1 := Scalar.xori v231 v232
  let c0_i32_158 : BitVec 32 := 0#32
  let v230 : BitVec 1 := Scalar.cmpi .ne v229 c0_i32_158
  let v234 : BitVec 1 := Scalar.andi v233 v230
  let v235 : BitVec 32 := Scalar.addi v229 v228
  let v236 : BitVec 32 := Scalar.select v234 v235 v229
  let c1_i32_165 : BitVec 32 := 1#32
  let v238 : BitVec 32 := Scalar.muli v236 c1_i32_165
  let v239 : BitVec 32 := Scalar.addi c0_i32_166 v238
  v239.toNat
def k0_dev18 (d0 : Dev nD) : Nat :=
  let c0_i32_182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_170 : BitVec 32 := 3#32
  let v247 : BitVec 32 := Scalar.addi v2 c3_i32_170
  let c16_i32_171 : BitVec 32 := 16#32
  let c0_i32_172 : BitVec 32 := 0#32
  let v248 : BitVec 1 := Scalar.cmpi .eq c16_i32_171 c0_i32_172
  let c1_i32_173 : BitVec 32 := 1#32
  let v249 : BitVec 32 := Scalar.select v248 c1_i32_173 c16_i32_171
  let v250 : BitVec 32 := Scalar.remsi v247 v249
  let c0_i32_175 : BitVec 32 := 0#32
  let v252 : BitVec 1 := Scalar.cmpi .slt v250 c0_i32_175
  let c0_i32_176 : BitVec 32 := 0#32
  let v253 : BitVec 1 := Scalar.cmpi .slt v249 c0_i32_176
  let v254 : BitVec 1 := Scalar.xori v252 v253
  let c0_i32_174 : BitVec 32 := 0#32
  let v251 : BitVec 1 := Scalar.cmpi .ne v250 c0_i32_174
  let v255 : BitVec 1 := Scalar.andi v254 v251
  let v256 : BitVec 32 := Scalar.addi v250 v249
  let v257 : BitVec 32 := Scalar.select v255 v256 v250
  let c1_i32_181 : BitVec 32 := 1#32
  let v259 : BitVec 32 := Scalar.muli v257 c1_i32_181
  let v260 : BitVec 32 := Scalar.addi c0_i32_182 v259
  v260.toNat
def k0_dev19 (d0 : Dev nD) : Nat :=
  let c0_i32_198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_186 : BitVec 32 := 4#32
  let v268 : BitVec 32 := Scalar.addi v2 c4_i32_186
  let c16_i32_187 : BitVec 32 := 16#32
  let c0_i32_188 : BitVec 32 := 0#32
  let v269 : BitVec 1 := Scalar.cmpi .eq c16_i32_187 c0_i32_188
  let c1_i32_189 : BitVec 32 := 1#32
  let v270 : BitVec 32 := Scalar.select v269 c1_i32_189 c16_i32_187
  let v271 : BitVec 32 := Scalar.remsi v268 v270
  let c0_i32_191 : BitVec 32 := 0#32
  let v273 : BitVec 1 := Scalar.cmpi .slt v271 c0_i32_191
  let c0_i32_192 : BitVec 32 := 0#32
  let v274 : BitVec 1 := Scalar.cmpi .slt v270 c0_i32_192
  let v275 : BitVec 1 := Scalar.xori v273 v274
  let c0_i32_190 : BitVec 32 := 0#32
  let v272 : BitVec 1 := Scalar.cmpi .ne v271 c0_i32_190
  let v276 : BitVec 1 := Scalar.andi v275 v272
  let v277 : BitVec 32 := Scalar.addi v271 v270
  let v278 : BitVec 32 := Scalar.select v276 v277 v271
  let c1_i32_197 : BitVec 32 := 1#32
  let v280 : BitVec 32 := Scalar.muli v278 c1_i32_197
  let v281 : BitVec 32 := Scalar.addi c0_i32_198 v280
  v281.toNat
def k0_dev20 (d0 : Dev nD) : Nat :=
  let c0_i32_214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_202 : BitVec 32 := 5#32
  let v289 : BitVec 32 := Scalar.addi v2 c5_i32_202
  let c16_i32_203 : BitVec 32 := 16#32
  let c0_i32_204 : BitVec 32 := 0#32
  let v290 : BitVec 1 := Scalar.cmpi .eq c16_i32_203 c0_i32_204
  let c1_i32_205 : BitVec 32 := 1#32
  let v291 : BitVec 32 := Scalar.select v290 c1_i32_205 c16_i32_203
  let v292 : BitVec 32 := Scalar.remsi v289 v291
  let c0_i32_207 : BitVec 32 := 0#32
  let v294 : BitVec 1 := Scalar.cmpi .slt v292 c0_i32_207
  let c0_i32_208 : BitVec 32 := 0#32
  let v295 : BitVec 1 := Scalar.cmpi .slt v291 c0_i32_208
  let v296 : BitVec 1 := Scalar.xori v294 v295
  let c0_i32_206 : BitVec 32 := 0#32
  let v293 : BitVec 1 := Scalar.cmpi .ne v292 c0_i32_206
  let v297 : BitVec 1 := Scalar.andi v296 v293
  let v298 : BitVec 32 := Scalar.addi v292 v291
  let v299 : BitVec 32 := Scalar.select v297 v298 v292
  let c1_i32_213 : BitVec 32 := 1#32
  let v301 : BitVec 32 := Scalar.muli v299 c1_i32_213
  let v302 : BitVec 32 := Scalar.addi c0_i32_214 v301
  v302.toNat
def k0_dev21 (d0 : Dev nD) : Nat :=
  let c0_i32_230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_218 : BitVec 32 := 6#32
  let v310 : BitVec 32 := Scalar.addi v2 c6_i32_218
  let c16_i32_219 : BitVec 32 := 16#32
  let c0_i32_220 : BitVec 32 := 0#32
  let v311 : BitVec 1 := Scalar.cmpi .eq c16_i32_219 c0_i32_220
  let c1_i32_221 : BitVec 32 := 1#32
  let v312 : BitVec 32 := Scalar.select v311 c1_i32_221 c16_i32_219
  let v313 : BitVec 32 := Scalar.remsi v310 v312
  let c0_i32_223 : BitVec 32 := 0#32
  let v315 : BitVec 1 := Scalar.cmpi .slt v313 c0_i32_223
  let c0_i32_224 : BitVec 32 := 0#32
  let v316 : BitVec 1 := Scalar.cmpi .slt v312 c0_i32_224
  let v317 : BitVec 1 := Scalar.xori v315 v316
  let c0_i32_222 : BitVec 32 := 0#32
  let v314 : BitVec 1 := Scalar.cmpi .ne v313 c0_i32_222
  let v318 : BitVec 1 := Scalar.andi v317 v314
  let v319 : BitVec 32 := Scalar.addi v313 v312
  let v320 : BitVec 32 := Scalar.select v318 v319 v313
  let c1_i32_229 : BitVec 32 := 1#32
  let v322 : BitVec 32 := Scalar.muli v320 c1_i32_229
  let v323 : BitVec 32 := Scalar.addi c0_i32_230 v322
  v323.toNat
def k0_dev22 (d0 : Dev nD) : Nat :=
  let c0_i32_246 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_234 : BitVec 32 := 7#32
  let v331 : BitVec 32 := Scalar.addi v2 c7_i32_234
  let c16_i32_235 : BitVec 32 := 16#32
  let c0_i32_236 : BitVec 32 := 0#32
  let v332 : BitVec 1 := Scalar.cmpi .eq c16_i32_235 c0_i32_236
  let c1_i32_237 : BitVec 32 := 1#32
  let v333 : BitVec 32 := Scalar.select v332 c1_i32_237 c16_i32_235
  let v334 : BitVec 32 := Scalar.remsi v331 v333
  let c0_i32_239 : BitVec 32 := 0#32
  let v336 : BitVec 1 := Scalar.cmpi .slt v334 c0_i32_239
  let c0_i32_240 : BitVec 32 := 0#32
  let v337 : BitVec 1 := Scalar.cmpi .slt v333 c0_i32_240
  let v338 : BitVec 1 := Scalar.xori v336 v337
  let c0_i32_238 : BitVec 32 := 0#32
  let v335 : BitVec 1 := Scalar.cmpi .ne v334 c0_i32_238
  let v339 : BitVec 1 := Scalar.andi v338 v335
  let v340 : BitVec 32 := Scalar.addi v334 v333
  let v341 : BitVec 32 := Scalar.select v339 v340 v334
  let c1_i32_245 : BitVec 32 := 1#32
  let v343 : BitVec 32 := Scalar.muli v341 c1_i32_245
  let v344 : BitVec 32 := Scalar.addi c0_i32_246 v343
  v344.toNat
def k0_dev23 (d0 : Dev nD) : Nat :=
  let c0_i32_262 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_250 : BitVec 32 := 8#32
  let v352 : BitVec 32 := Scalar.addi v2 c8_i32_250
  let c16_i32_251 : BitVec 32 := 16#32
  let c0_i32_252 : BitVec 32 := 0#32
  let v353 : BitVec 1 := Scalar.cmpi .eq c16_i32_251 c0_i32_252
  let c1_i32_253 : BitVec 32 := 1#32
  let v354 : BitVec 32 := Scalar.select v353 c1_i32_253 c16_i32_251
  let v355 : BitVec 32 := Scalar.remsi v352 v354
  let c0_i32_255 : BitVec 32 := 0#32
  let v357 : BitVec 1 := Scalar.cmpi .slt v355 c0_i32_255
  let c0_i32_256 : BitVec 32 := 0#32
  let v358 : BitVec 1 := Scalar.cmpi .slt v354 c0_i32_256
  let v359 : BitVec 1 := Scalar.xori v357 v358
  let c0_i32_254 : BitVec 32 := 0#32
  let v356 : BitVec 1 := Scalar.cmpi .ne v355 c0_i32_254
  let v360 : BitVec 1 := Scalar.andi v359 v356
  let v361 : BitVec 32 := Scalar.addi v355 v354
  let v362 : BitVec 32 := Scalar.select v360 v361 v355
  let c1_i32_261 : BitVec 32 := 1#32
  let v364 : BitVec 32 := Scalar.muli v362 c1_i32_261
  let v365 : BitVec 32 := Scalar.addi c0_i32_262 v364
  v365.toNat
def k0_dev24 (d0 : Dev nD) : Nat :=
  let c0_i32_278 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_266 : BitVec 32 := 9#32
  let v373 : BitVec 32 := Scalar.addi v2 c9_i32_266
  let c16_i32_267 : BitVec 32 := 16#32
  let c0_i32_268 : BitVec 32 := 0#32
  let v374 : BitVec 1 := Scalar.cmpi .eq c16_i32_267 c0_i32_268
  let c1_i32_269 : BitVec 32 := 1#32
  let v375 : BitVec 32 := Scalar.select v374 c1_i32_269 c16_i32_267
  let v376 : BitVec 32 := Scalar.remsi v373 v375
  let c0_i32_271 : BitVec 32 := 0#32
  let v378 : BitVec 1 := Scalar.cmpi .slt v376 c0_i32_271
  let c0_i32_272 : BitVec 32 := 0#32
  let v379 : BitVec 1 := Scalar.cmpi .slt v375 c0_i32_272
  let v380 : BitVec 1 := Scalar.xori v378 v379
  let c0_i32_270 : BitVec 32 := 0#32
  let v377 : BitVec 1 := Scalar.cmpi .ne v376 c0_i32_270
  let v381 : BitVec 1 := Scalar.andi v380 v377
  let v382 : BitVec 32 := Scalar.addi v376 v375
  let v383 : BitVec 32 := Scalar.select v381 v382 v376
  let c1_i32_277 : BitVec 32 := 1#32
  let v385 : BitVec 32 := Scalar.muli v383 c1_i32_277
  let v386 : BitVec 32 := Scalar.addi c0_i32_278 v385
  v386.toNat
def k0_dev25 (d0 : Dev nD) : Nat :=
  let c0_i32_294 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_282 : BitVec 32 := 10#32
  let v394 : BitVec 32 := Scalar.addi v2 c10_i32_282
  let c16_i32_283 : BitVec 32 := 16#32
  let c0_i32_284 : BitVec 32 := 0#32
  let v395 : BitVec 1 := Scalar.cmpi .eq c16_i32_283 c0_i32_284
  let c1_i32_285 : BitVec 32 := 1#32
  let v396 : BitVec 32 := Scalar.select v395 c1_i32_285 c16_i32_283
  let v397 : BitVec 32 := Scalar.remsi v394 v396
  let c0_i32_287 : BitVec 32 := 0#32
  let v399 : BitVec 1 := Scalar.cmpi .slt v397 c0_i32_287
  let c0_i32_288 : BitVec 32 := 0#32
  let v400 : BitVec 1 := Scalar.cmpi .slt v396 c0_i32_288
  let v401 : BitVec 1 := Scalar.xori v399 v400
  let c0_i32_286 : BitVec 32 := 0#32
  let v398 : BitVec 1 := Scalar.cmpi .ne v397 c0_i32_286
  let v402 : BitVec 1 := Scalar.andi v401 v398
  let v403 : BitVec 32 := Scalar.addi v397 v396
  let v404 : BitVec 32 := Scalar.select v402 v403 v397
  let c1_i32_293 : BitVec 32 := 1#32
  let v406 : BitVec 32 := Scalar.muli v404 c1_i32_293
  let v407 : BitVec 32 := Scalar.addi c0_i32_294 v406
  v407.toNat
def k0_dev26 (d0 : Dev nD) : Nat :=
  let c0_i32_310 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_298 : BitVec 32 := 11#32
  let v415 : BitVec 32 := Scalar.addi v2 c11_i32_298
  let c16_i32_299 : BitVec 32 := 16#32
  let c0_i32_300 : BitVec 32 := 0#32
  let v416 : BitVec 1 := Scalar.cmpi .eq c16_i32_299 c0_i32_300
  let c1_i32_301 : BitVec 32 := 1#32
  let v417 : BitVec 32 := Scalar.select v416 c1_i32_301 c16_i32_299
  let v418 : BitVec 32 := Scalar.remsi v415 v417
  let c0_i32_303 : BitVec 32 := 0#32
  let v420 : BitVec 1 := Scalar.cmpi .slt v418 c0_i32_303
  let c0_i32_304 : BitVec 32 := 0#32
  let v421 : BitVec 1 := Scalar.cmpi .slt v417 c0_i32_304
  let v422 : BitVec 1 := Scalar.xori v420 v421
  let c0_i32_302 : BitVec 32 := 0#32
  let v419 : BitVec 1 := Scalar.cmpi .ne v418 c0_i32_302
  let v423 : BitVec 1 := Scalar.andi v422 v419
  let v424 : BitVec 32 := Scalar.addi v418 v417
  let v425 : BitVec 32 := Scalar.select v423 v424 v418
  let c1_i32_309 : BitVec 32 := 1#32
  let v427 : BitVec 32 := Scalar.muli v425 c1_i32_309
  let v428 : BitVec 32 := Scalar.addi c0_i32_310 v427
  v428.toNat
def k0_dev27 (d0 : Dev nD) : Nat :=
  let c0_i32_326 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_314 : BitVec 32 := 12#32
  let v436 : BitVec 32 := Scalar.addi v2 c12_i32_314
  let c16_i32_315 : BitVec 32 := 16#32
  let c0_i32_316 : BitVec 32 := 0#32
  let v437 : BitVec 1 := Scalar.cmpi .eq c16_i32_315 c0_i32_316
  let c1_i32_317 : BitVec 32 := 1#32
  let v438 : BitVec 32 := Scalar.select v437 c1_i32_317 c16_i32_315
  let v439 : BitVec 32 := Scalar.remsi v436 v438
  let c0_i32_319 : BitVec 32 := 0#32
  let v441 : BitVec 1 := Scalar.cmpi .slt v439 c0_i32_319
  let c0_i32_320 : BitVec 32 := 0#32
  let v442 : BitVec 1 := Scalar.cmpi .slt v438 c0_i32_320
  let v443 : BitVec 1 := Scalar.xori v441 v442
  let c0_i32_318 : BitVec 32 := 0#32
  let v440 : BitVec 1 := Scalar.cmpi .ne v439 c0_i32_318
  let v444 : BitVec 1 := Scalar.andi v443 v440
  let v445 : BitVec 32 := Scalar.addi v439 v438
  let v446 : BitVec 32 := Scalar.select v444 v445 v439
  let c1_i32_325 : BitVec 32 := 1#32
  let v448 : BitVec 32 := Scalar.muli v446 c1_i32_325
  let v449 : BitVec 32 := Scalar.addi c0_i32_326 v448
  v449.toNat
def k0_dev28 (d0 : Dev nD) : Nat :=
  let c0_i32_342 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_330 : BitVec 32 := 13#32
  let v457 : BitVec 32 := Scalar.addi v2 c13_i32_330
  let c16_i32_331 : BitVec 32 := 16#32
  let c0_i32_332 : BitVec 32 := 0#32
  let v458 : BitVec 1 := Scalar.cmpi .eq c16_i32_331 c0_i32_332
  let c1_i32_333 : BitVec 32 := 1#32
  let v459 : BitVec 32 := Scalar.select v458 c1_i32_333 c16_i32_331
  let v460 : BitVec 32 := Scalar.remsi v457 v459
  let c0_i32_335 : BitVec 32 := 0#32
  let v462 : BitVec 1 := Scalar.cmpi .slt v460 c0_i32_335
  let c0_i32_336 : BitVec 32 := 0#32
  let v463 : BitVec 1 := Scalar.cmpi .slt v459 c0_i32_336
  let v464 : BitVec 1 := Scalar.xori v462 v463
  let c0_i32_334 : BitVec 32 := 0#32
  let v461 : BitVec 1 := Scalar.cmpi .ne v460 c0_i32_334
  let v465 : BitVec 1 := Scalar.andi v464 v461
  let v466 : BitVec 32 := Scalar.addi v460 v459
  let v467 : BitVec 32 := Scalar.select v465 v466 v460
  let c1_i32_341 : BitVec 32 := 1#32
  let v469 : BitVec 32 := Scalar.muli v467 c1_i32_341
  let v470 : BitVec 32 := Scalar.addi c0_i32_342 v469
  v470.toNat
def k0_dev29 (d0 : Dev nD) : Nat :=
  let c0_i32_358 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_346 : BitVec 32 := 14#32
  let v478 : BitVec 32 := Scalar.addi v2 c14_i32_346
  let c16_i32_347 : BitVec 32 := 16#32
  let c0_i32_348 : BitVec 32 := 0#32
  let v479 : BitVec 1 := Scalar.cmpi .eq c16_i32_347 c0_i32_348
  let c1_i32_349 : BitVec 32 := 1#32
  let v480 : BitVec 32 := Scalar.select v479 c1_i32_349 c16_i32_347
  let v481 : BitVec 32 := Scalar.remsi v478 v480
  let c0_i32_351 : BitVec 32 := 0#32
  let v483 : BitVec 1 := Scalar.cmpi .slt v481 c0_i32_351
  let c0_i32_352 : BitVec 32 := 0#32
  let v484 : BitVec 1 := Scalar.cmpi .slt v480 c0_i32_352
  let v485 : BitVec 1 := Scalar.xori v483 v484
  let c0_i32_350 : BitVec 32 := 0#32
  let v482 : BitVec 1 := Scalar.cmpi .ne v481 c0_i32_350
  let v486 : BitVec 1 := Scalar.andi v485 v482
  let v487 : BitVec 32 := Scalar.addi v481 v480
  let v488 : BitVec 32 := Scalar.select v486 v487 v481
  let c1_i32_357 : BitVec 32 := 1#32
  let v490 : BitVec 32 := Scalar.muli v488 c1_i32_357
  let v491 : BitVec 32 := Scalar.addi c0_i32_358 v490
  v491.toNat
def k0_dev30 (d0 : Dev nD) : Nat :=
  let c0_i32_374 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_362 : BitVec 32 := 15#32
  let v499 : BitVec 32 := Scalar.addi v2 c15_i32_362
  let c16_i32_363 : BitVec 32 := 16#32
  let c0_i32_364 : BitVec 32 := 0#32
  let v500 : BitVec 1 := Scalar.cmpi .eq c16_i32_363 c0_i32_364
  let c1_i32_365 : BitVec 32 := 1#32
  let v501 : BitVec 32 := Scalar.select v500 c1_i32_365 c16_i32_363
  let v502 : BitVec 32 := Scalar.remsi v499 v501
  let c0_i32_367 : BitVec 32 := 0#32
  let v504 : BitVec 1 := Scalar.cmpi .slt v502 c0_i32_367
  let c0_i32_368 : BitVec 32 := 0#32
  let v505 : BitVec 1 := Scalar.cmpi .slt v501 c0_i32_368
  let v506 : BitVec 1 := Scalar.xori v504 v505
  let c0_i32_366 : BitVec 32 := 0#32
  let v503 : BitVec 1 := Scalar.cmpi .ne v502 c0_i32_366
  let v507 : BitVec 1 := Scalar.andi v506 v503
  let v508 : BitVec 32 := Scalar.addi v502 v501
  let v509 : BitVec 32 := Scalar.select v507 v508 v502
  let c1_i32_373 : BitVec 32 := 1#32
  let v511 : BitVec 32 := Scalar.muli v509 c1_i32_373
  let v512 : BitVec 32 := Scalar.addi c0_i32_374 v511
  v512.toNat
def k0_off2 (d0 : Dev nD) (c0_i32_378 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v520 : BitVec 32 := Scalar.subi v2 c0_i32_378
  let c16_i32_379 : BitVec 32 := 16#32
  let c0_i32_380 : BitVec 32 := 0#32
  let v521 : BitVec 1 := Scalar.cmpi .eq c16_i32_379 c0_i32_380
  let c1_i32_381 : BitVec 32 := 1#32
  let v522 : BitVec 32 := Scalar.select v521 c1_i32_381 c16_i32_379
  let v523 : BitVec 32 := Scalar.remsi v520 v522
  let c0_i32_383 : BitVec 32 := 0#32
  let v525 : BitVec 1 := Scalar.cmpi .slt v523 c0_i32_383
  let c0_i32_384 : BitVec 32 := 0#32
  let v526 : BitVec 1 := Scalar.cmpi .slt v522 c0_i32_384
  let v527 : BitVec 1 := Scalar.xori v525 v526
  let c0_i32_382 : BitVec 32 := 0#32
  let v524 : BitVec 1 := Scalar.cmpi .ne v523 c0_i32_382
  let v528 : BitVec 1 := Scalar.andi v527 v524
  let v529 : BitVec 32 := Scalar.addi v523 v522
  let v530 : BitVec 32 := Scalar.select v528 v529 v523
  let c256_i32_385 : BitVec 32 := 256#32
  let v531 : BitVec 32 := Scalar.muli v530 c256_i32_385
  let c0_i32_386 : BitVec 32 := 0#32
  let v532 : BitVec 32 := Scalar.addi v531 c0_i32_386
  let c0_i32_392 : BitVec 32 := 0#32
  ![v532.toNat, 0]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_414 : BitVec 32 := 256#32
  let v561 : BitVec 32 := Scalar.muli v2 c256_i32_414
  let v562 : Index := Scalar.indexCast v561
  let c0_415 : Index := 0#32
  ![v562.toNat, 0]
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Program.lean ====
/-
# The body as loops

The kernel's body is straight-line code in which the same few steps recur for every peer: signal a peer, send it a
slab of rows, fetch a block of the weights, wait for a slab and add its product, wait for a send. This module names
each of those steps once, at a peer counted by `r : Fin 15` (the device `r + 1` places further round the ring), and
states that the printed body is the composition of these steps over all peers.
-/
module

public import proofs.«01_k».proof.Proof.Gen.KernelIdeal
public import proofs.«01_k».proof.Proof.Gen.KernelIdeal.Skeleton

@[expose] public section

noncomputable section

namespace Cert.RingMatmul

open Cert.KernelIdeal Cert.KernelIdeal.Gen
open Idealize.ShloMosaic Idealize.ShloMosaic.TcCoe Idealize.SL.Sem

variable {F : FTy → Type} [FloatOps F]

/-! ## Buffers -/

abbrev xM : Memref sig .tc .vmem S4096x256 .f32 := Memref.whole cc0_stg0_0
abbrev wM : Memref sig .tc .hbm S4096x8192 .f32 := Memref.whole main_arg1
abbrev sxM : Memref sig .tc .smem S1 .f32 := Memref.whole cc0_stg1_0
abbrev swM : Memref sig .tc .smem S1 .f32 := Memref.whole cc0_stg2_0
abbrev oM : Memref sig .tc .vmem S256x8192 .f32 := Memref.whole cc0_stg3_0
/-- The device's own operand, rounded to eight bits. -/
abbrev eM : Memref sig .tc .vmem S4096x256 .fp8e4m3 := Memref.whole cc0_scratch0
/-- The landing buffer: slot `d` takes the slab of the device `d` places back. -/
abbrev lM : Memref sig .tc .vmem S16x256x256 .fp8e4m3 := Memref.whole cc0_scratch1
/-- The two-slot buffer of weights. -/
abbrev bM : Memref sig .tc .vmem S2x256x8192 .f32 := Memref.whole cc0_scratch2

/-! ## Peers, slots and slabs -/

/-- The peer `r + 1` places further, as the signals compute it. -/
def sigDev (c : Dev nD) : Fin 15 → Dev nD :=
  ![⟨k0_dev1 c, k0_dev1_lt c⟩, ⟨k0_dev2 c, k0_dev2_lt c⟩, ⟨k0_dev3 c, k0_dev3_lt c⟩, ⟨k0_dev4 c, k0_dev4_lt c⟩, ⟨k0_dev5 c, k0_dev5_lt c⟩,
    ⟨k0_dev6 c, k0_dev6_lt c⟩, ⟨k0_dev7 c, k0_dev7_lt c⟩, ⟨k0_dev8 c, k0_dev8_lt c⟩, ⟨k0_dev9 c, k0_dev9_lt c⟩, ⟨k0_dev10 c, k0_dev10_lt c⟩,
    ⟨k0_dev11 c, k0_dev11_lt c⟩, ⟨k0_dev12 c, k0_dev12_lt c⟩, ⟨k0_dev13 c, k0_dev13_lt c⟩, ⟨k0_dev14 c, k0_dev14_lt c⟩, ⟨k0_dev15 c, k0_dev15_lt c⟩]

/-- The same peer, as the sends compute it. -/
def sendDev (c : Dev nD) : Fin 15 → Dev nD :=
  ![⟨k0_dev16 c, k0_dev16_lt c⟩, ⟨k0_dev17 c, k0_dev17_lt c⟩, ⟨k0_dev18 c, k0_dev18_lt c⟩, ⟨k0_dev19 c, k0_dev19_lt c⟩, ⟨k0_dev20 c, k0_dev20_lt c⟩,
    ⟨k0_dev21 c, k0_dev21_lt c⟩, ⟨k0_dev22 c, k0_dev22_lt c⟩, ⟨k0_dev23 c, k0_dev23_lt c⟩, ⟨k0_dev24 c, k0_dev24_lt c⟩, ⟨k0_dev25 c, k0_dev25_lt c⟩,
    ⟨k0_dev26 c, k0_dev26_lt c⟩, ⟨k0_dev27 c, k0_dev27_lt c⟩, ⟨k0_dev28 c, k0_dev28_lt c⟩, ⟨k0_dev29 c, k0_dev29_lt c⟩, ⟨k0_dev30 c, k0_dev30_lt c⟩]

theorem slot_inb : ∀ d : Fin 16, ∀ a, (![d.val, 0, 0] : Fin 3 → ℕ) a + S1x256x256.size a ≤ S16x256x256.size a := by decide
theorem slot_words : ∀ d : Fin 16, (Rect.unit (s := S16x256x256) ![d.val, 0, 0] S1x256x256.size (slot_inb d)).WholeWords (EltTy.packing .fp8e4m3) := by
  decide +kernel
theorem sem_inb : ∀ d : Fin 16, ∀ a, (![d.val] : Fin 1 → ℕ) a + S1.size a ≤ S16.size a := by decide
theorem pair_inb : ∀ j : Fin 2, ∀ a, (![j.val, 0, 0] : Fin 3 → ℕ) a + S1x256x8192.size a ≤ S2x256x8192.size a := by decide
theorem psem_inb : ∀ j : Fin 2, ∀ a, (![j.val, 0] : Fin 2 → ℕ) a + S1x1.size a ≤ S2x1.size a := by decide

/-- Slot `d` of the landing buffer, as a rectangle of it, -/
abbrev slotR (d : Fin 16) : Rect S16x256x256 := Rect.unit (s := S16x256x256) ![d.val, 0, 0] S1x256x256.size (slot_inb d)
/-- and as the matrix a copy fills. -/
abbrev slotM (d : Fin 16) : Memref sig .tc .vmem S256x256 .fp8e4m3 := (lM.slice (slotR d) (fun _ => rfl)).squeeze S256x256 squeezes_S1x256x256_S256x256
/-- The slab of the rounded operand that goes to the peer `r + 1` places further. -/
abbrev slabM (c : Dev nD) (r : Fin 15) : Memref sig .tc .vmem S256x256 .fp8e4m3 :=
  eM.slice (Rect.unit (s := S4096x256) (k0_off1 c (BitVec.ofNat 32 (1 + r.val))) S256x256.size (k0_off1_inb c r)) (fun _ => rfl)
/-- The slab the device keeps. -/
abbrev ownR (c : Dev nD) : Rect S4096x256 := Rect.unit (s := S4096x256) (k0_off3 c) S256x256.size (k0_off3_inb c)

abbrev semAt (A : DmaSems sig S16) (d : Fin 16) : DmaSem sig :=
  ((A.slice (Rect.unit (s := S16) ![d.val] S1.size (sem_inb d))).squeeze S_ squeezes_S1_S_).sem
/-- The semaphore that counts the send to the peer `r + 1` places further, -/
abbrev sendS (r : Fin 15) : DmaSem sig := semAt cc0_scratch3 r.succ
/-- the one that counts the landing from the peer `r + 1` places back, -/
abbrev recvS (r : Fin 15) : DmaSem sig := semAt cc0_scratch4 r.succ
/-- and the one of slot `j` of the weights. -/
abbrev pairS (j : Fin 2) : DmaSem sig := ((cc0_scratch5.slice (Rect.unit (s := S2x1) ![j.val, 0] S1x1.size (psem_inb j))).squeeze S_ squeezes_S1x1_S_).sem
/-- The barrier semaphore. -/
abbrev barS : Sem sig := (SemArray.scalar (sig.barrier 0 rfl) : Sems sig S_).sem

/-- Which slot block `b` of the weights goes through. -/
abbrev par (b : Fin 16) : Fin 2 := ⟨b.val % 2, Nat.mod_lt _ (by decide)⟩
abbrev pairR (j : Fin 2) : Rect S2x256x8192 := Rect.unit (s := S2x256x8192) ![j.val, 0, 0] S1x256x8192.size (pair_inb j)
abbrev pairM (j : Fin 2) : Memref sig .tc .vmem S256x8192 .f32 := (bM.slice (pairR j) (fun _ => rfl)).squeeze S256x8192 squeezes_S1x256x8192_S256x8192
/-- Block `b` of the weights as device `c` numbers them: the rows that meet the slab of the device `b` places back. -/
abbrev rowsM (c : Dev nD) (b : Fin 16) : Memref sig .tc .hbm S256x8192 .f32 :=
  wM.slice (Rect.unit (s := S4096x8192) (k0_off2 c (BitVec.ofNat 32 b.val)) S256x8192.size (k0_off2_inb c b)) (fun _ => rfl)

abbrev allR : Rect S4096x256 := Rect.unit (s := S4096x256) ![0, 0] S4096x256.size inb_S4096x256_S4096x256_0_0
abbrev outR : Rect S256x8192 := Rect.unit (s := S256x8192) ![0, 0] S256x8192.size inb_S256x8192_S256x8192_0_0
abbrev oneR : Rect S1 := Rect.unit (s := S1) ![0] S1.size inb_S1_S1_0

/-! ## The steps, each before what follows it -/

variable (F) in
abbrev Pr : Type 1 := Prog (TpuEff nD τ sig (Elt F) Λ₀ .tc) PUnit

def signalP (c : Dev nD) (r : Fin 15) (k : Pr F) : Pr F :=
  .op (.semSignal (sigDev c r, .tc) barS ((1 : ℕ) : ℤ)) fun _ => k

def sendP (c : Dev nD) (r : Fin 15) (k : Pr F) : Pr F :=
  .op (.enqueueDma (slabM c r) (.remote (Dev.tc (sendDev c r)) (slotM r.succ) (.dma (sendS r))) (.dma (recvS r))
    ((Memref.isWhole_whole cc0_scratch0).wordExact_slice rfl _ (k0_off1_wordsfp8e4m3 c r))
    (((Memref.isWhole_whole cc0_scratch1).wordExact_slice rfl _ (slot_words r.succ)).reshape _ _) ⟨⟨rfl, Or.inl rfl⟩, trivial⟩) fun _ => k

def fetchP (c : Dev nD) (b : Fin 16) (k : Pr F) : Pr F :=
  .op (.enqueueDma (rowsM c b) (.here (pairM (par b))) (.dma (pairS (par b))) (View.wordExact_bits rfl) ((View.wordExact_bits rfl).reshape _ _)
    ⟨Or.inl rfl, trivial⟩) fun _ => k

def fetchedP (c : Dev nD) (b : Fin 16) (k : Pr F) : Pr F :=
  .op (.waitDma2 (pairS (par b)) (rowsM c b) (pairM (par b)) (View.wordExact_bits rfl) ((View.wordExact_bits rfl).reshape _ _)) fun _ => k

/-- Wait for the slab of the peer `r + 1` places back and for its rows of the weights, and add their product. -/
def addP (c : Dev nD) (r : Fin 15) (k : Pr F) : Pr F :=
  fetchedP c r.succ
    (.op (.waitDma2 (recvS r) (slabM c r) (slotM r.succ) ((Memref.isWhole_whole cc0_scratch0).wordExact_slice rfl _ (k0_off1_wordsfp8e4m3 c r))
        (((Memref.isWhole_whole cc0_scratch1).wordExact_slice rfl _ (slot_words r.succ)).reshape _ _)) fun _ =>
      .op (.load lM (slotR r.succ).toLoadRect (View.loadsAt_vmem h_S1x256x256)) fun u =>
      .op (.load bM (pairR (par r.succ)).toLoadRect (View.loadsAt_vmem h_S1x256x8192)) fun v =>
      .op (.load oM outR.toLoadRect (View.loadsAt_vmem h_S256x8192)) fun o =>
      .op (.load oM outR.toLoadRect (View.loadsAt_vmem h_S256x8192)) fun _ =>
      .op (.store oM outR (k0_pay3 u v o) Finset.univ (View.stores_vmem_bits_univ h_S256x8192 rfl) (.inl rfl)) fun _ => k)

/-- The device's own slab against its own rows of the weights. -/
def ownP (c : Dev nD) (k : Pr F) : Pr F :=
  fetchedP c 0
    (.op (.load eM (ownR c).toLoadRect (View.loadsAt_vmem h_S256x256)) fun u =>
      .op (.load bM (pairR (par 0)).toLoadRect (View.loadsAt_vmem h_S1x256x8192)) fun v =>
      .op (.load oM outR.toLoadRect (View.loadsAt_vmem h_S256x8192)) fun _ =>
      .op (.store oM outR (k0_pay2 u v) Finset.univ (View.stores_vmem_bits_univ h_S256x8192 rfl) (.inl rfl)) fun _ => k)

def sentP (c : Dev nD) (r : Fin 15) (k : Pr F) : Pr F :=
  .op (.waitDma2 (sendS r) (slotM r.succ) (slabM c r) (((Memref.isWhole_whole cc0_scratch1).wordExact_slice rfl _ (slot_words r.succ)).reshape _ _)
    ((Memref.isWhole_whole cc0_scratch0).wordExact_slice rfl _ (k0_off1_wordsfp8e4m3 c r))) fun _ => k

/-- Round the operand. -/
def roundP (k : Pr F) : Pr F :=
  .op (.load xM allR.toLoadRect (View.loadsAt_vmem h_S4096x256)) fun x =>
  .op (.load eM allR.toLoadRect (View.loadsAt_vmem h_S4096x256)) fun _ =>
  .op (.store eM allR (k0_pay1 x) Finset.univ (View.stores_vmem h_S4096x256
    ((Memref.isWhole_whole cc0_scratch0).storeExact_slice rfl _ packedfp8e4m3_S4096x256_S4096x256_0_0) (fun _ => rfl)) (.inl rfl)) fun _ => k

/-- Scale the sum and cut it off below zero. -/
def scaleP (k : Pr F) : Pr F :=
  .op (.load oM outR.toLoadRect (View.loadsAt_vmem h_S256x8192)) fun o =>
  .op (.load sxM oneR.toLoadRect (View.loadsAt_rect (View.loads_smem_one rfl numel1_S1))) fun a =>
  .op (.load swM oneR.toLoadRect (View.loadsAt_rect (View.loads_smem_one rfl numel1_S1))) fun b =>
  .op (.load oM outR.toLoadRect (View.loadsAt_vmem h_S256x8192)) fun _ =>
  .op (.store oM outR (k0_pay22 (k0_pay21 o) (a (Shape.Idx.first (numel1_S1.symm ▸ Nat.one_pos))) (b (Shape.Idx.first (numel1_S1.symm ▸ Nat.one_pos))))
    Finset.univ (View.stores_vmem_bits_univ h_S256x8192 rfl) (.inl rfl)) fun _ => k

/-! ## The body -/

/-- The body of device `c`. -/
def flow (c : Dev nD) : Pr F :=
  (List.finRange 15).foldr (signalP c) <|
  .op (.semWait barS ((15 : ℕ) : ℤ)) fun _ =>
  roundP <|
  (List.finRange 15).foldr (sendP c) <|
  fetchP c 0 <|
  fetchP c 1 <|
  ownP c <|
  (List.finRange 14).foldr (fun r k => fetchP c r.succ.succ (addP c r.castSucc k)) <|
  addP c 14 <|
  scaleP <|
  (List.finRange 15).foldr (sentP c) <|
  .ret ⟨⟩

set_option maxRecDepth 65536 in
set_option maxHeartbeats 4000000 in
theorem body_eq_flow :
    cc0_body (F := F) xM (Memref.isWhole_whole _) wM (Memref.isWhole_whole _) sxM (Memref.isWhole_whole _) swM (Memref.isWhole_whole _)
        oM (Memref.isWhole_whole _) eM (Memref.isWhole_whole _) lM (Memref.isWhole_whole _) bM (Memref.isWhole_whole _) cc0_scratch3 cc0_scratch4 cc0_scratch5
      = .op .deviceId flow := rfl

end Cert.RingMatmul

end
-- ==== Proof.Ring.lean ====
/-
# Places on the ring, and the rows and slots they name

The device `d` places further round the ring, the rows of the operand that belong to it, the slots of the landing
buffer: which elements each view covers, and that the slabs (the slots, the halves of the weight buffer) cover their
buffer without overlap.
-/
module

public import proofs.«01_k».proof.Proof.Program
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.RingMatmul

open Cert.KernelIdeal Cert.KernelIdeal.Gen
open Idealize.ShloMosaic Idealize.ShloMosaic.TcCoe Idealize.SL.Sem

/-! ## Devices -/

/-- The device `d` places further; -/
def ahead (c : Dev nD) (d : Fin 16) : Dev nD := ⟨(c.val + d.val) % 16, Nat.mod_lt _ (by decide)⟩
/-- the device `d` places back. -/
def behind (c : Dev nD) (d : Fin 16) : Dev nD := ⟨(c.val + (16 - d.val)) % 16, Nat.mod_lt _ (by decide)⟩

theorem ahead_behind (c : Dev nD) (d : Fin 16) : ahead (behind c d) d = c := by
  apply Fin.ext; have := c.isLt; have := d.isLt; simp only [ahead, behind, nD] at *; omega
theorem behind_ahead (c : Dev nD) (d : Fin 16) : behind (ahead c d) d = c := by
  apply Fin.ext; have := c.isLt; have := d.isLt; simp only [ahead, behind, nD] at *; omega
theorem ahead_zero (c : Dev nD) : ahead c 0 = c := by
  apply Fin.ext; have := c.isLt; simp only [ahead, nD, Fin.val_zero] at *; omega
theorem behind_zero (c : Dev nD) : behind c 0 = c := by
  apply Fin.ext; have := c.isLt; simp only [behind, nD, Fin.val_zero] at *; omega

/-- Going `d` places further, as a permutation of the devices; -/
def aheadEquiv (d : Fin 16) : Dev nD ≃ Dev nD := ⟨(ahead · d), (behind · d), (behind_ahead · d), (ahead_behind · d)⟩
/-- the distance from `c`, as a numbering of the devices; -/
def fromEquiv (c : Dev nD) : Fin 16 ≃ Dev nD where
  toFun := ahead c
  invFun e := ⟨(e.val + (16 - c.val)) % 16, Nat.mod_lt _ (by decide)⟩
  left_inv d := by apply Fin.ext; have := c.isLt; have := d.isLt; simp only [ahead, nD] at *; omega
  right_inv e := by apply Fin.ext; have := c.isLt; have := e.isLt; simp only [ahead, nD] at *; omega

/-- The peer `r + 1` places further, and the one `r + 1` places back. -/
abbrev nxt (c : Dev nD) (r : Fin 15) : Dev nD := ahead c r.succ
abbrev prv (c : Dev nD) (r : Fin 15) : Dev nD := behind c r.succ

/-- `r + 1` places further, and on by the rest of the round, is back home. -/
theorem nxt_rev (c : Dev nD) (r : Fin 15) : nxt (nxt c r) (Fin.rev r) = c := by
  apply Fin.ext; have := c.isLt; have := r.isLt; simp only [ahead, nD, Fin.val_succ, Fin.val_rev] at *; omega
theorem nxt_rev' (c : Dev nD) (r : Fin 15) : nxt (nxt c (Fin.rev r)) r = c := by
  have := nxt_rev c (Fin.rev r); rwa [Fin.rev_rev] at this

theorem sigDev_eq (c : Dev nD) (r : Fin 15) : sigDev c r = nxt c r := by revert c r; decide +kernel
theorem sendDev_eq (c : Dev nD) (r : Fin 15) : sendDev c r = nxt c r := by revert c r; decide +kernel

/-! ## Offsets -/

theorem off1_eq (c : Dev nD) (r : Fin 15) : k0_off1 c (BitVec.ofNat 32 (1 + r.val)) = ![256 * (nxt c r).val, 0] := by
  revert c r; decide +kernel
theorem off2_eq (c : Dev nD) (b : Fin 16) : k0_off2 c (BitVec.ofNat 32 b.val) = ![256 * (behind c b).val, 0] := by
  revert c b; decide +kernel
theorem off3_eq (c : Dev nD) : k0_off3 c = ![256 * c.val, 0] := by revert c; decide +kernel

/-! ## Elements -/

/-- The elements of the operand in the rows of device `e`. -/
def rowsOf (e : Dev nD) : Finset S4096x256.Idx := Finset.univ.filter fun i => (i 0).val / 256 = e.val
/-- The elements of slot `d` of the landing buffer. -/
def slotSet (d : Fin 16) : Finset S16x256x256.Idx := Finset.univ.filter fun i => (i 0).val = d.val
/-- The elements of half `j` of the weight buffer. -/
def pairSet (j : Fin 2) : Finset S2x256x8192.Idx := Finset.univ.filter fun i => (i 0).val = j.val

theorem unit_rows {off : Fin 2 → ℕ} (e : Dev nD) (h : off = ![256 * e.val, 0]) (inb : ∀ a, off a + S256x256.size a ≤ S4096x256.size a) :
    (Rect.unit (s := S4096x256) off S256x256.size inb).set = rowsOf e := by
  subst h
  ext i
  rw [Rect.mem_set_unit, rowsOf, Finset.mem_filter]
  have h0 : (i 0).val < 4096 := (i 0).isLt
  have h1 : (i 1).val < 256 := (i 1).isLt
  constructor
  · intro h
    have := h 0
    refine ⟨Finset.mem_univ _, ?_⟩
    change 256 * e.val ≤ (i 0).val ∧ (i 0).val < 256 * e.val + 256 at this
    omega
  · rintro ⟨-, h⟩ a
    match a with
    | ⟨0, _⟩ => show 256 * e.val ≤ (i 0).val ∧ (i 0).val < 256 * e.val + 256; omega
    | ⟨1, _⟩ => show 0 ≤ (i 1).val ∧ (i 1).val < 0 + 256; omega

theorem slot_set (d : Fin 16) : (slotR d).set = slotSet d := by
  ext i
  rw [Rect.mem_set_unit, slotSet, Finset.mem_filter]
  have h1 : (i 1).val < 256 := (i 1).isLt
  have h2 : (i 2).val < 256 := (i 2).isLt
  constructor
  · intro h
    have := h 0
    refine ⟨Finset.mem_univ _, ?_⟩
    change d.val ≤ (i 0).val ∧ (i 0).val < d.val + 1 at this
    omega
  · rintro ⟨-, h⟩ a
    match a with
    | ⟨0, _⟩ => show d.val ≤ (i 0).val ∧ (i 0).val < d.val + 1; omega
    | ⟨1, _⟩ => show 0 ≤ (i 1).val ∧ (i 1).val < 0 + 256; omega
    | ⟨2, _⟩ => show 0 ≤ (i 2).val ∧ (i 2).val < 0 + 256; omega

theorem pair_set (j : Fin 2) : (pairR j).set = pairSet j := by
  ext i
  rw [Rect.mem_set_unit, pairSet, Finset.mem_filter]
  have h1 : (i 1).val < 256 := (i 1).isLt
  have h2 : (i 2).val < 8192 := (i 2).isLt
  constructor
  · intro h
    have := h 0
    refine ⟨Finset.mem_univ _, ?_⟩
    change j.val ≤ (i 0).val ∧ (i 0).val < j.val + 1 at this
    omega
  · rintro ⟨-, h⟩ a
    match a with
    | ⟨0, _⟩ => show j.val ≤ (i 0).val ∧ (i 0).val < j.val + 1; omega
    | ⟨1, _⟩ => show 0 ≤ (i 1).val ∧ (i 1).val < 0 + 256; omega
    | ⟨2, _⟩ => show 0 ≤ (i 2).val ∧ (i 2).val < 0 + 8192; omega

/-! ### of the views -/

theorem slabM_set (c : Dev nD) (r : Fin 15) : (slabM c r).view.set = rowsOf (nxt c r) :=
  (View.set_slice_whole _ _).trans (unit_rows _ (off1_eq c r) _)
theorem ownM_set (c : Dev nD) : (eM.view.slice (ownR c)).set = rowsOf c :=
  (View.set_slice_whole _ _).trans (unit_rows _ (off3_eq c) _)
theorem slotA_set (d : Fin 16) : (lM.view.slice (slotR d)).set = slotSet d := (View.set_slice_whole _ _).trans (slot_set d)
theorem pairA_set (j : Fin 2) : (bM.view.slice (pairR j)).set = pairSet j := (View.set_slice_whole _ _).trans (pair_set j)
theorem slotM_set (d : Fin 16) : (slotM d).view.set = slotSet d := (View.set_reshape _ _).trans (slotA_set d)
theorem pairM_set (j : Fin 2) : (pairM j).view.set = pairSet j := (View.set_reshape _ _).trans (pairA_set j)

/-! ### Covers -/

theorem rowsOf_disjoint (c : Dev nD) (d d' : Fin 16) (h : d ≠ d') : Disjoint (rowsOf (ahead c d)) (rowsOf (ahead c d')) :=
  Finset.disjoint_left.mpr fun i hi hi' => h ((fromEquiv c).injective (Fin.ext
    ((Finset.mem_filter.mp hi).2.symm.trans (Finset.mem_filter.mp hi').2)))
theorem slotSet_disjoint (d d' : Fin 16) (h : d ≠ d') : Disjoint (slotSet d) (slotSet d') :=
  Finset.disjoint_left.mpr fun i hi hi' => h (Fin.ext ((Finset.mem_filter.mp hi).2.symm.trans (Finset.mem_filter.mp hi').2))
theorem pairSet_disjoint (d d' : Fin 2) (h : d ≠ d') : Disjoint (pairSet d) (pairSet d') :=
  Finset.disjoint_left.mpr fun i hi hi' => h (Fin.ext ((Finset.mem_filter.mp hi).2.symm.trans (Finset.mem_filter.mp hi').2))

theorem rowsOf_cover (c : Dev nD) : (Finset.univ : Finset (Fin 16)).biUnion (fun d => rowsOf (ahead c d)) = Finset.univ := by
  ext i
  simp only [Finset.mem_biUnion, Finset.mem_univ, true_and, iff_true]
  have h0 : (i 0).val < 4096 := (i 0).isLt
  obtain ⟨d, hd⟩ := (fromEquiv c).surjective ⟨(i 0).val / 256, by show _ < 16; omega⟩
  refine ⟨d, ?_⟩
  rw [rowsOf, Finset.mem_filter]
  exact ⟨Finset.mem_univ _, (congrArg Fin.val hd).symm⟩
theorem slotSet_cover : (Finset.univ : Finset (Fin 16)).biUnion slotSet = Finset.univ := by
  ext i
  simp only [Finset.mem_biUnion, Finset.mem_univ, true_and, iff_true]
  exact ⟨i 0, Finset.mem_filter.mpr ⟨Finset.mem_univ _, rfl⟩⟩
theorem pairSet_cover : (Finset.univ : Finset (Fin 2)).biUnion pairSet = Finset.univ := by
  ext i
  simp only [Finset.mem_biUnion, Finset.mem_univ, true_and, iff_true]
  exact ⟨i 0, Finset.mem_filter.mpr ⟨Finset.mem_univ _, rfl⟩⟩

/-! ## Credits -/

/-- What one slab's transfer counts, -/
def N : ℕ := (slotM 1).view.dmaCredit
/-- and what one block of the weights counts. -/
def NW : ℕ := (pairM 0).view.dmaCredit
theorem N_pos : 0 < N := View.dmaCredit_pos _ (by decide)
theorem NW_pos : 0 < NW := View.dmaCredit_pos _ (by decide)
theorem slot_credit (d : Fin 16) : (slotM d).view.dmaCredit = N := rfl
theorem slab_credit (c : Dev nD) (r : Fin 15) : (slabM c r).view.dmaCredit = N := rfl
theorem pair_credit (j : Fin 2) : (pairM j).view.dmaCredit = NW := rfl

end Cert.RingMatmul

end
-- ==== Proof.Contents.lean ====
/-
# What the buffers hold

From the memory at launch: each device's operand and its rounding, the slab a peer's copy brings, the block of weights
a fetch brings, and the running sum after each peer. All of it is stated with the kernel's own arithmetic, at any
interpretation of the floats.
-/
module

public import proofs.«01_k».proof.Proof.Ring

@[expose] public section

noncomputable section

namespace Cert.RingMatmul

open Cert.KernelIdeal Cert.KernelIdeal.Gen
open Idealize.ShloMosaic Idealize.ShloMosaic.TcCoe Idealize.SL.Sem

variable {F : FTy → Type} [FloatOps F]

variable (m : (ℓ : Loc nD τ sig) → Buf (Elt F) ℓ) (ρ : Dev nD → PrngReg)

/-- The memory at launch: the given contents, every semaphore at zero. -/
def s₀ : MemSt nD τ sig (Elt F) := ⟨m, fun _ => 0, ρ⟩

/-- The operand as the pipeline stages it, -/
def xAt (c : Dev nD) : (cc0_stg0_0 : Ref sig .tc).ty.Contents (Elt F) := (win0_0.blk (0 : Fin 1)).view.read (Elt F) ((s₀ m ρ).mem ((c : Thread nD τ).loc main_arg0))
/-- the two scales, -/
def sxAt (c : Dev nD) : (cc0_stg1_0 : Ref sig .tc).ty.Contents (Elt F) := (win0_1.blk (0 : Fin 1)).view.read (Elt F) ((s₀ m ρ).mem ((c : Thread nD τ).loc main_arg2))
def swAt (c : Dev nD) : (cc0_stg2_0 : Ref sig .tc).ty.Contents (Elt F) := (win0_2.blk (0 : Fin 1)).view.read (Elt F) ((s₀ m ρ).mem ((c : Thread nD τ).loc main_arg3))
/-- and the weights, which stay where they are. -/
def wAt (c : Dev nD) : Buf (Elt F) ((c : Thread nD τ).loc main_arg1) := m ((c : Thread nD τ).loc main_arg1)

/-- The operand rounded to eight bits. -/
def eAt (c : Dev nD) : (cc0_scratch0 : Ref sig .tc).ty.Contents (Elt F) := k0_pay1 (xAt m ρ c)

/-- The slab device `c` sends to the peer `r + 1` places further, -/
def slabOut (c : Dev nD) (r : Fin 15) : S256x256.Idx → Elt F .fp8e4m3 := (slabM c r).view.read (Elt F) (eAt m ρ c)
/-- so the slab it receives from the one `r + 1` places back, -/
def slabIn (c : Dev nD) (r : Fin 15) : S256x256.Idx → Elt F .fp8e4m3 := slabOut m ρ (prv c r) r
/-- and the slab it keeps. -/
def slabOwn (c : Dev nD) : S256x256.Idx → Elt F .fp8e4m3 := eM.view.readAt (Elt F) (ownR c).toLoadRect (eAt m ρ c)
/-- Block `b` of the weights. -/
def rowsIn (c : Dev nD) (b : Fin 16) : S256x8192.Idx → Elt F .f32 := (rowsM c b).view.read (Elt F) (wAt m c)

/-- A slab against a block of the weights, the weights rounded to eight bits; -/
def prod (A : FVec F S256x256 .fp8e4m3) (B : FVec F S256x8192 .f32) : FVec F S256x8192 .f32 :=
  matmul dot_S256x256_S256x8192_S256x8192_1_0_0_1_n_n none A (truncf .fp8e5m2 B bitsLt_fp8e5m2_f32) (constant S256x8192 .f32 0x00000000#32)
/-- added to what is there. -/
def addProd (A : FVec F S256x256 .fp8e4m3) (B : FVec F S256x8192 .f32) (o : FVec F S256x8192 .f32) : FVec F S256x8192 .f32 :=
  addf (shapeCast S256x8192 o shapeCasts_S256x8192_S256x8192) (prod A B)

/-- The sum after the device's own slab and those of the first `n` peers. -/
def sumAt (c : Dev nD) : Fin 16 → FVec F S256x8192 .f32 :=
  Fin.induction (prod (slabOwn m ρ c) (rowsIn m c 0)) fun r o => addProd (slabIn m ρ c r) (rowsIn m c r.succ) o

theorem sumAt_zero (c : Dev nD) : sumAt m ρ c 0 = prod (slabOwn m ρ c) (rowsIn m c 0) := rfl
theorem sumAt_succ (c : Dev nD) (r : Fin 15) : sumAt m ρ c r.succ = addProd (slabIn m ρ c r) (rowsIn m c r.succ) (sumAt m ρ c r.castSucc) :=
  Fin.induction_succ _ _ _

/-- The only element of a scale. -/
abbrev at0 : S1.Idx := Shape.Idx.first (numel1_S1.symm ▸ Nat.one_pos)

/-- The kernel's result. -/
def outAt (c : Dev nD) : FVec F S256x8192 .f32 := k0_pay22 (k0_pay21 (sumAt m ρ c 15)) (sxAt m ρ c at0) (swAt m ρ c at0)

/-! ## The stores, in these terms -/

theorem pay2_eq (u : Vec F S256x256 .fp8e4m3) (f : (cc0_scratch2 : Ref sig .tc).ty.Contents (Elt F)) (j : Fin 2) :
    k0_pay2 u (bM.view.readAt (Elt F) (pairR j).toLoadRect f) = prod u ((pairM j).view.read (Elt F) f) := rfl
theorem pay3_eq (d : Fin 16) (g : (cc0_scratch1 : Ref sig .tc).ty.Contents (Elt F)) (f : (cc0_scratch2 : Ref sig .tc).ty.Contents (Elt F)) (j : Fin 2)
    (o : Vec F S256x8192 .f32) :
    k0_pay3 (lM.view.readAt (Elt F) (slotR d).toLoadRect g) (bM.view.readAt (Elt F) (pairR j).toLoadRect f) o
      = addProd ((slotM d).view.read (Elt F) g) ((pairM j).view.read (Elt F) f) o := rfl

theorem zeros2 : (![0, 0] : Fin 2 → ℕ) = fun _ => 0 := funext fun a => by fin_cases a <;> rfl
theorem zeros1 : (![0] : Fin 1 → ℕ) = fun _ => 0 := funext fun a => by fin_cases a <;> rfl

theorem read_x (f : (cc0_stg0_0 : Ref sig .tc).ty.Contents (Elt F)) : xM.view.readAt (Elt F) allR.toLoadRect f = f :=
  Memref.readAt_unit_zero (Elt F) cc0_stg0_0 zeros2 _ f
theorem read_o (f : (cc0_stg3_0 : Ref sig .tc).ty.Contents (Elt F)) : oM.view.readAt (Elt F) outR.toLoadRect f = f :=
  Memref.readAt_unit_zero (Elt F) cc0_stg3_0 zeros2 _ f
theorem read_sx (f : (cc0_stg1_0 : Ref sig .tc).ty.Contents (Elt F)) : sxM.view.readAt (Elt F) oneR.toLoadRect f = f :=
  Memref.readAt_unit_zero (Elt F) cc0_stg1_0 zeros1 _ f
theorem read_sw (f : (cc0_stg2_0 : Ref sig .tc).ty.Contents (Elt F)) : swM.view.readAt (Elt F) oneR.toLoadRect f = f :=
  Memref.readAt_unit_zero (Elt F) cc0_stg2_0 zeros1 _ f
theorem write_e (f w : (cc0_scratch0 : Ref sig .tc).ty.Contents (Elt F)) : (eM.access allR : View sig .tc _ _ _).write (Elt F) f w Finset.univ = w :=
  Memref.write_access_unit_zero_univ (Elt F) cc0_scratch0 zeros2 _ f w
theorem write_o (f w : (cc0_stg3_0 : Ref sig .tc).ty.Contents (Elt F)) : (oM.access outR : View sig .tc _ _ _).write (Elt F) f w Finset.univ = w :=
  Memref.write_access_unit_zero_univ (Elt F) cc0_stg3_0 zeros2 _ f w

end Cert.RingMatmul

end
-- ==== Proof.Protocol.lean ====
/-
# The protocol

Every device has one barrier cell and, for each peer, a cell that counts its send to that peer and one that counts the
landing from the peer the same number of places back. Each cell runs one round.

* The barrier cell has one duty per peer, of one unit. The peer `d + 1` places further pays duty `d`, and hands over the
  slot of its own landing buffer that this device's slab is to fill. So after its wait a device holds one slot of every
  peer, and may write to it.
* The send cell's only duty, of one slab's credit, returns the slab that was sent.
* The landing cell's only duty, of the same credit, is paid by the copy that arrives, and hands over the slot, filled.

A device waits for its barrier while it owes landings and for everything else while it owes nothing. So the levels are
the barrier below the landings and the pipeline's own cells below both.
-/
module

public import proofs.«01_k».proof.Proof.Contents

@[expose] public section

noncomputable section

namespace Cert.RingMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources: the pipeline's, the rounds', the counters of the local copies -/

abbrev UB : Type := URounds (GSem nD τ sig) (Fin 15)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

variable (m : (ℓ : Loc nD τ sig) → Buf (Elt F) ℓ) (ρ : Dev nD → PrngReg)

/-! ## Cells -/

/-- A device's cells: the barrier's, or a peer's send (`false`) or landing (`true`) cell. -/
abbrev Ck : Type := Option (Bool × Fin 15)

def csem : Ck → SemLoc sig
  | none => .reg barS
  | some (false, r) => .dma (sendS r)
  | some (true, r) => .dma (recvS r)

theorem csem_inj : Function.Injective csem := by
  have h : ∀ k k', csem k = csem k' → k = k' := by decide +kernel
  exact fun k k' => h k k'

abbrev kcell (c : Dev nD) (k : Ck) : GSem nD τ sig := ((c : Thread nD τ), csem k)
abbrev barCell (c : Dev nD) : GSem nD τ sig := ((c : Thread nD τ), .reg barS)
abbrev sendCell (c : Dev nD) (r : Fin 15) : GSem nD τ sig := ((c : Thread nD τ), .dma (sendS r))
abbrev recvCell (c : Dev nD) (r : Fin 15) : GSem nD τ sig := ((c : Thread nD τ), .dma (recvS r))
theorem kcell_bar (c : Dev nD) : kcell c none = barCell c := rfl
theorem kcell_send (c : Dev nD) (r : Fin 15) : kcell c (some (false, r)) = sendCell c r := rfl
theorem kcell_recv (c : Dev nD) (r : Fin 15) : kcell c (some (true, r)) = recvCell c r := rfl

/-- Which of the cells a semaphore is, if any. -/
def which (sm : SemLoc sig) : Option Ck := by
  classical exact if h : ∃ k, csem k = sm then some h.choose else none
theorem which_csem (k : Ck) : which (csem k) = some k := by
  classical
  have h : ∃ k', csem k' = csem k := ⟨k, rfl⟩
  unfold which
  rw [dif_pos h, Option.some.injEq]
  exact csem_inj h.choose_spec
theorem which_none {sm : SemLoc sig} (h : ∀ k, csem k ≠ sm) : which sm = none := by
  classical
  unfold which
  exact dif_neg fun ⟨k, hk⟩ => h k hk

/-! ## Payloads -/

/-- Slot `d` of device `c`'s landing buffer, holding anything. -/
def slotAny (c : Dev nD) (d : Fin 16) : sProp 𝕄 :=
  iprop(∃ f : Buf (Elt F) ((slotM d).view.loc (c : Thread nD τ)), (slotM d).view.loc (c : Thread nD τ) ↦[(slotM d).view.set]{fullShare} f)
/-- The slot filled from the peer `r + 1` places back. -/
def slotFull (c : Dev nD) (r : Fin 15) : sProp 𝕄 := owns (c : Thread nD τ) (slotM r.succ) fullShare (slabIn m ρ c r)
/-- The slab that goes to the peer `r + 1` places further. -/
def slabPts (c : Dev nD) (r : Fin 15) : sProp 𝕄 :=
  (slabM c r).view.loc (c : Thread nD τ) ↦[(slabM c r).view.set]{fullShare} eAt m ρ c

/-- What duty `d` of cell `k` of device `c` hands over. -/
def pay (c : Dev nD) (k : Ck) (d : Fin 15) : sProp 𝕄 :=
  match k with
  | none => slotAny (nxt c d) d.succ
  | some (false, r) => slabPts m ρ c r
  | some (true, r) => slotFull m ρ c r

instance pay_storable (c : Dev nD) (k : Ck) (d : Fin 15) : BI.Storable (upEmb : UEmb _ 𝕄) (pay (F := F) m ρ c k d) := by
  unfold pay slotAny slabPts slotFull
  split <;> infer_instance

/-! ## The schedule -/

def dutiesOf : Option Ck → Finset (Fin 15)
  | none => ∅
  | some none => Finset.univ
  | some (some _) => {0}
def amountOf : Option Ck → ℕ
  | some (some _) => N
  | _ => 1

def Rd : Rounds.Schedule (GSem nD τ sig) (Fin 15) 𝕄 where
  duties g r := if r = 0 ∧ g.1.2 = .tc then dutiesOf (which g.2) else ∅
  unitless _ := False
  amount g _ _ := amountOf (which g.2)
  payload g _ d := match which g.2 with
    | some k => pay m ρ g.1.1 k d
    | none => iprop(emp)
  amount_pos g _ _ _ := by
    unfold amountOf
    split
    · exact N_pos
    · exact Nat.one_pos

instance Rd_payload_storable (g : GSem nD τ sig) (r : ℕ) (d : Fin 15) :
    BI.Storable (upEmb : UEmb _ 𝕄) ((Rd (F := F) m ρ).payload g r d) := by
  show BI.Storable upEmb (match which g.2 with | some k => pay m ρ g.1.1 k d | none => iprop(emp))
  split <;> infer_instance

section Sched
variable (c : Dev nD)

theorem duties_cell (k : Ck) : (Rd (F := F) m ρ).duties (kcell c k) 0 = dutiesOf (some k) := by
  show (if 0 = 0 ∧ (c : Thread nD τ).2 = .tc then dutiesOf (which (csem k)) else ∅) = _
  rw [if_pos ⟨rfl, rfl⟩, which_csem]
theorem duties_later (g : GSem nD τ sig) : ∀ r, 0 + 1 ≤ r → (Rd (F := F) m ρ).duties g r = ∅ :=
  fun r hr => if_neg fun h => by omega
theorem amount_cell (k : Ck) (r : ℕ) (d : Fin 15) : (Rd (F := F) m ρ).amount (kcell c k) r d = amountOf (some k) :=
  congrArg amountOf (which_csem k)
theorem payload_cell (k : Ck) (r : ℕ) (d : Fin 15) : (Rd (F := F) m ρ).payload (kcell c k) r d = pay m ρ c k d := by
  show (match which (csem k) with | some k => pay m ρ c k d | none => iprop(emp)) = _
  rw [which_csem]

/-! The same of each kind of cell. -/

theorem mem_bar (d : Fin 15) : d ∈ (Rd (F := F) m ρ).duties (barCell c) 0 := by
  rw [← kcell_bar, duties_cell]; exact Finset.mem_univ d
theorem mem_send (r : Fin 15) : 0 ∈ (Rd (F := F) m ρ).duties (sendCell c r) 0 := by
  rw [← kcell_send, duties_cell]; exact Finset.mem_singleton_self 0
theorem mem_recv (r : Fin 15) : 0 ∈ (Rd (F := F) m ρ).duties (recvCell c r) 0 := by
  rw [← kcell_recv, duties_cell]; exact Finset.mem_singleton_self 0

theorem amount_bar (d : Fin 15) : (Rd (F := F) m ρ).amount (barCell c) 0 d = 1 := by rw [← kcell_bar, amount_cell]; rfl
theorem amount_send (r d : Fin 15) : (Rd (F := F) m ρ).amount (sendCell c r) 0 d = N := by rw [← kcell_send, amount_cell]; rfl
theorem amount_recv (r d : Fin 15) : (Rd (F := F) m ρ).amount (recvCell c r) 0 d = N := by rw [← kcell_recv, amount_cell]; rfl

theorem payload_bar (d : Fin 15) : (Rd (F := F) m ρ).payload (barCell c) 0 d = slotAny (nxt c d) d.succ := by
  rw [← kcell_bar, payload_cell]; rfl
theorem payload_send (r d : Fin 15) : (Rd (F := F) m ρ).payload (sendCell c r) 0 d = slabPts m ρ c r := by
  rw [← kcell_send, payload_cell]; rfl
theorem payload_recv (r d : Fin 15) : (Rd (F := F) m ρ).payload (recvCell c r) 0 d = slotFull m ρ c r := by
  rw [← kcell_recv, payload_cell]; rfl

theorem expect_bar : (Rd (F := F) m ρ).expect (barCell c) 0 = 15 := by
  unfold Schedule.expect Schedule.amountOf
  rw [Finset.sum_congr rfl fun d _ => amount_bar m ρ c d, ← kcell_bar, duties_cell]
  rfl
theorem expect_send (r : Fin 15) : (Rd (F := F) m ρ).expect (sendCell c r) 0 = N := by
  unfold Schedule.expect Schedule.amountOf
  rw [Finset.sum_congr rfl fun d _ => amount_send m ρ c r d, ← kcell_send, duties_cell]
  exact Finset.sum_singleton _ _
theorem expect_recv (r : Fin 15) : (Rd (F := F) m ρ).expect (recvCell c r) 0 = N := by
  unfold Schedule.expect Schedule.amountOf
  rw [Finset.sum_congr rfl fun d _ => amount_recv m ρ c r d, ← kcell_recv, duties_cell]
  exact Finset.sum_singleton _ _

theorem rest_bar : bigSep ((Rd (F := F) m ρ).duties (barCell c) 0 \ ∅) (fun d => (Rd (F := F) m ρ).payload (barCell c) 0 d)
    = bigSep Finset.univ fun d : Fin 15 => slotAny (F := F) (nxt c d) d.succ := by
  rw [Finset.sdiff_empty, bigSep_congr fun d _ => payload_bar m ρ c d, ← kcell_bar, duties_cell]
  rfl
theorem rest_send (r : Fin 15) :
    bigSep ((Rd (F := F) m ρ).duties (sendCell c r) 0 \ ∅) (fun d => (Rd (F := F) m ρ).payload (sendCell c r) 0 d) = slabPts m ρ c r := by
  rw [Finset.sdiff_empty, bigSep_congr fun d _ => payload_send m ρ c r d, ← kcell_send, duties_cell]
  exact bigSep_singleton
theorem rest_recv (r : Fin 15) :
    bigSep ((Rd (F := F) m ρ).duties (recvCell c r) 0 \ ∅) (fun d => (Rd (F := F) m ρ).payload (recvCell c r) 0 d) = slotFull m ρ c r := by
  rw [Finset.sdiff_empty, bigSep_congr fun d _ => payload_recv m ρ c r d, ← kcell_recv, duties_cell]
  exact bigSep_singleton

end Sched

/-! ## Sums over the peers still to come -/

section Rest
variable {A : Type} [AddCommMonoid A] {n : ℕ}

/-- The sum of `f` over the places from `i` on. -/
def rest (f : Fin n → A) (i : Fin (n + 1)) : A := ∑ r ∈ Finset.univ.filter (fun r : Fin n => i ≤ r.castSucc), f r

theorem rest_zero (f : Fin n → A) : rest f 0 = ∑ r, f r := by
  unfold rest; rw [Finset.filter_true_of_mem fun r _ => Fin.zero_le _]
theorem rest_last (f : Fin n → A) : rest f (Fin.last n) = 0 := by
  unfold rest
  rw [Finset.filter_false_of_mem fun r _ => not_le.mpr (Fin.castSucc_lt_last r), Finset.sum_empty]
theorem rest_step (f : Fin n → A) (r : Fin n) : rest f r.castSucc = rest f r.succ + f r := by
  unfold rest
  have h : (Finset.univ.filter fun s : Fin n => r.castSucc ≤ s.castSucc) = insert r (Finset.univ.filter fun s : Fin n => r.succ ≤ s.castSucc) := by
    ext s
    simp only [Finset.mem_filter, Finset.mem_univ, true_and, Finset.mem_insert, Fin.le_def, Fin.val_castSucc, Fin.val_succ, Fin.ext_iff]
    omega
  rw [h, Finset.sum_insert (by simp [Fin.le_def]), add_comm]

end Rest

/-! ## What a device owes at launch, and the levels -/

/-- The landings device `c` owes the peers from place `i` on, -/
def oweRecv (c : Dev nD) : Fin 16 → CellTallies nD τ sig Unit := rest fun r => tallyAt (recvCell (nxt c r) r) () N
/-- and the barrier units. -/
def oweBar (c : Dev nD) : Fin 16 → CellTallies nD τ sig Unit := rest fun r => tallyAt (barCell (nxt c r)) () 1
def O₀ (c : Dev nD) : CellTallies nD τ sig Unit := oweRecv c 0 + oweBar c 0

def L (g : GSem nD τ sig) : Finset Unit := if g.1.2 = .tc then {()} else ∅
def level : Option Ck → ℕ
  | some none => 1
  | some (some (true, _)) => 2
  | _ => 0
def lv (g : GSem nD τ sig) (_ : Unit) : ℕ := level (which g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Ck) (u : Unit) : lv (kcell c k) u = level (some k) := congrArg level (which_csem k)

/-- A sum of tallies is positive somewhere only where one of them is. -/
theorem sum_tallyAt_pos {I : Type} (S : Finset I) (cell : I → GSem nD τ sig) (n : ℕ) {g : GSem nD τ sig} {u : Unit}
    (h : 0 < (∑ i ∈ S, (tallyAt (cell i) () n : CellTallies nD τ sig Unit)) g u) : ∃ i, g = cell i := by
  classical
  induction S using Finset.induction_on with
  | empty => exact absurd h (Nat.lt_irrefl 0)
  | insert a S ha ih =>
    rw [Finset.sum_insert ha, Pi.add_apply, Finsupp.add_apply, tallyAt_apply] at h
    by_cases e : g = cell a
    · exact ⟨a, e⟩
    · rw [if_neg fun h' => e h'.1, Nat.zero_add] at h
      exact ih h

theorem oweRecv_pos {c : Dev nD} {i : Fin 16} {g : GSem nD τ sig} {u : Unit} (h : 0 < oweRecv c i g u) : ∃ r, g = recvCell (nxt c r) r :=
  sum_tallyAt_pos _ _ _ h
theorem oweBar_pos {c : Dev nD} {i : Fin 16} {g : GSem nD τ sig} {u : Unit} (h : 0 < oweBar c i g u) : ∃ r, g = barCell (nxt c r) :=
  sum_tallyAt_pos _ _ _ h
theorem O₀_pos {c : Dev nD} {g : GSem nD τ sig} {u : Unit} (h : 0 < O₀ c g u) : ∃ e k, g = kcell e k ∧ 0 < level (some k) := by
  unfold O₀ at h
  rw [Pi.add_apply, Finsupp.add_apply] at h
  rcases Nat.eq_zero_or_pos (oweRecv c 0 g u) with h0 | h0
  · rw [h0, Nat.zero_add] at h
    obtain ⟨r, hr⟩ := oweBar_pos h
    exact ⟨_, none, hr, by decide⟩
  · obtain ⟨r, hr⟩ := oweRecv_pos h0
    exact ⟨_, some (true, r), hr, by show 0 < 2; decide⟩

/-- A semaphore that is none of the cells may be waited for while all of the launch's debt, or none, is owed; -/
theorem mayWait_other (c : Dev nD) (sm : SemLoc sig) (hs : ∀ k, csem k ≠ sm) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by obtain ⟨e, k, rfl, -⟩ := O₀_pos hg; exact Finset.mem_singleton_self _)
      (fun p hp => by
        rw [Finset.mem_singleton.mp hp]; unfold lv; rw [which_none hs]; exact Nat.le_refl 0)
      (fun g u hg => by obtain ⟨e, k, rfl, hk⟩ := O₀_pos hg; rw [lv_cell]; exact hk)
  · rw [MayWait_zero]; iintro -; iempintro

/-- and the barrier while the landings are owed. -/
theorem mayWait_bar (c : Dev nD) : (levAts L lv : sProp 𝕄) ⊢ MayWait (c : Thread nD τ) (.reg barS) () (oweRecv c 0) :=
  MayOwe.of_cut (L := L) (lev := lv) 1 (fun p hp => by rw [Finset.mem_singleton.mp hp, L_tc]; exact Finset.mem_singleton_self _)
    (fun g u hg => by obtain ⟨r, rfl⟩ := oweRecv_pos hg; exact Finset.mem_singleton_self _)
    (fun p hp => by rw [Finset.mem_singleton.mp hp]; exact Nat.le_of_eq (lv_cell c none ()))
    (fun g u hg => by obtain ⟨r, rfl⟩ := oweRecv_pos hg; rw [← kcell_recv, lv_cell]; show 1 < 2; decide)

end Cert.RingMatmul

end
-- ==== Proof.Comm.lean ====
/-
# Signals, sends and waits between devices

One rule for each step that touches another device: what device `c` gives up, what it gets, what it still owes.
-/
module

public import proofs.«01_k».proof.Proof.Protocol

@[expose] public section

noncomputable section

namespace Cert.RingMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The program `p` runs on device `c` to `Q`. -/
abbrev runs (c : Dev nD) (Q : PUnit → sProp 𝕄) (p : Pr F) : sProp 𝕄 :=
  wp frame (wpE (defs₀ (F := F)) 𝒱₀ (c : Thread nD τ) none) Set.univ p Q

/-- Device `c` owes `O`, whatever it has waited for. -/
def Ow (c : Dev nD) (O : CellTallies nD τ sig Unit) : sProp 𝕄 := iprop(∃ W : Waits sig Unit, owes (c : Thread nD τ) O W)

/-- Every cell's invariant, under the names `K`, and that every cell has reached its round. -/
def records (K : Dev nD × Ck → ℕ) : sProp 𝕄 :=
  iprop((bigSep Finset.univ fun ck : Dev nD × Ck => cellInv ER (Rd m ρ) (K ck) (kcell ck.1 ck.2))
    ∗ bigSep Finset.univ fun ck : Dev nD × Ck => reached ER (kcell ck.1 ck.2) 0)

instance records_persistent (K : Dev nD × Ck → ℕ) : BI.Persistent (records (F := F) m ρ K) := by unfold records; infer_instance

variable (K : Dev nD × Ck → ℕ)

theorem records_inv (k : Dev nD × Ck) : records (F := F) m ρ K ⊢ cellInv ER (Rd m ρ) (K k) (kcell k.1 k.2) := by
  unfold records
  exact sep_elim_left.trans (bigSep_elim (Finset.mem_univ k))
theorem records_reached (k : Dev nD × Ck) : records (F := F) m ρ K ⊢ reached ER (kcell k.1 k.2) 0 := by
  unfold records
  exact sep_elim_right.trans (bigSep_elim (Finset.mem_univ k))

theorem inv_bar (c : Dev nD) : records (F := F) m ρ K ⊢ cellInv ER (Rd m ρ) (K (c, none)) (barCell c) := records_inv m ρ K (c, none)
theorem inv_send (c : Dev nD) (r : Fin 15) : records (F := F) m ρ K ⊢ cellInv ER (Rd m ρ) (K (c, some (false, r))) (sendCell c r) :=
  records_inv m ρ K (c, some (false, r))
theorem inv_recv (c : Dev nD) (r : Fin 15) : records (F := F) m ρ K ⊢ cellInv ER (Rd m ρ) (K (c, some (true, r))) (recvCell c r) :=
  records_inv m ρ K (c, some (true, r))
theorem reached_bar (c : Dev nD) : records (F := F) m ρ K ⊢ reached ER (barCell c) 0 := records_reached m ρ K (c, none)
theorem reached_send (c : Dev nD) (r : Fin 15) : records (F := F) m ρ K ⊢ reached ER (sendCell c r) 0 := records_reached m ρ K (c, some (false, r))
theorem reached_recv (c : Dev nD) (r : Fin 15) : records (F := F) m ρ K ⊢ reached ER (recvCell c r) 0 := records_reached m ρ K (c, some (true, r))

theorem owe_bar_step (c : Dev nD) (r : Fin 15) :
    oweRecv c 0 + oweBar c r.castSucc = oweRecv c 0 + oweBar c r.succ + tallyAt (barCell (nxt c r)) () 1 := by
  unfold oweBar; rw [rest_step, add_assoc]

/-- Signalling a peer pays one of its barrier duties with the slot that peer is to fill. -/
theorem signal_rule (c : Dev nD) (Q : PUnit → sProp 𝕄) (r : Fin 15) (k : Pr F) :
    iprop(records m ρ K ∗ (dutyTok ER (barCell (nxt c r)) 0 (Fin.rev r) ∗ slotAny (F := F) c (Fin.rev r).succ)
        ∗ Ow c (oweRecv c 0 + oweBar c r.castSucc))
      ⊢ iprop((Ow c (oweRecv c 0 + oweBar c r.succ) -∗ runs c Q k) -∗ runs c Q (signalP c r k)) := by
  unfold signalP Ow
  rw [sigDev_eq]
  iintro ⟨#HR, ⟨Htok, Hslot⟩, ⟨%W, HO⟩⟩ Hk
  iapply (Rounds.wp_signal 𝒱₀ ER (Rd m ρ) (c : Thread nD τ) none (dst := (nxt c r : Thread nD τ)) (κ := K (nxt c r, none))
      (d := Fin.rev r) (mem_bar m ρ (nxt c r) (Fin.rev r)) (amount_bar m ρ (nxt c r) (Fin.rev r)) ()
      (oweRecv c 0 + oweBar c r.succ) (owe_bar_step c r)) $$ [HO Htok Hslot]
  · isplitr; · iapply (inv_bar m ρ K (nxt c r)); iexact HR
    isplitl [HO]; · iexact HO
    isplitl [Htok]; · iexact Htok
    isplitl [Hslot]
    · rw [payload_bar m ρ (nxt c r), nxt_rev]; iexact Hslot
    iapply (reached_bar m ρ K (nxt c r)); iexact HR
  iintro HO
  iapply Hk
  iexists W
  iexact HO

theorem slabIn_nxt (c : Dev nD) (r : Fin 15) : slabIn m ρ (nxt c r) r = slabOut m ρ c r := by
  show slabOut m ρ (behind (ahead c r.succ) r.succ) r = _
  rw [behind_ahead]

/-- The copy of a slab into a peer's slot makes what the peer's landing cell hands over. -/
theorem landed (c : Dev nD) (r : Fin 15) (fd : Buf (Elt F) ((slotM r.succ).view.loc (nxt c r : Thread nD τ))) :
    ((slotM r.succ).view.loc (nxt c r : Thread nD τ) ↦[(slotM r.succ).view.set]{fullShare}
        ((slotM r.succ).view.write (Elt F) fd ((slabM c r).view.read (Elt F) (eAt m ρ c)) Finset.univ) : sProp 𝕄)
      ⊢ slotFull m ρ (nxt c r) r := by
  unfold slotFull owns
  iintro H
  iexists ((slotM r.succ).view.write (Elt F) fd ((slabM c r).view.read (Elt F) (eAt m ρ c)) Finset.univ)
  isplitr
  · ipureintro
    exact (View.read_write_univ (v := (slotM r.succ).view) (Val := Elt F) fd _).trans (slabIn_nxt m ρ c r).symm
  · iexact H

/-- The send, at the peer's name as the program computes it. -/
theorem send_at (c n : Dev nD) (r : Fin 15) (hn : n = nxt c r) (Q : PUnit → sProp 𝕄) (k : Pr F)
    {hsc : (slotM r.succ : Memref sig (Dev.tc n : Thread nD τ).2.kind .vmem S256x256 .fp8e4m3).view.ref.isScScratch = false}
    {hsrc : (slabM c r).view.WordExact} {hdst : (slotM r.succ).view.WordExact}
    {hsem : DmaTarget.Typed .vmem (.dma (recvS r)) (.remote (Dev.tc n : Thread nD τ) (slotM r.succ) (.dma (sendS r)) hsc)} :
    iprop(records m ρ K ∗ (slabPts m ρ c r ∗ slotAny (F := F) (nxt c r) r.succ ∗ dutyTok ER (sendCell c r) 0 0 ∗ dutyTok ER (recvCell (nxt c r) r) 0 0)
        ∗ Ow c (oweRecv c r.castSucc))
      ⊢ iprop(((cred (tallyAt (sendCell c r) () N) ∗ Ow c (oweRecv c r.succ)) -∗ runs c Q k)
          -∗ runs c Q (.op (.enqueueDma (slabM c r) (.remote (Dev.tc n : Thread nD τ) (slotM r.succ) (.dma (sendS r)) hsc) (.dma (recvS r)) hsrc hdst hsem) fun _ => k)) := by
  subst hn
  unfold Ow slotAny slabPts
  iintro ⟨#HR, ⟨Hs, ⟨%fd, Hd⟩, Ht, Ht'⟩, ⟨%W, HO⟩⟩ Hk
  iapply (Rounds.wp_send_pointsTo 𝒱₀ ER (Rd m ρ) (c : Thread nD τ) none (κ₁ := K (c, some (false, r))) (κ₂ := K (nxt c r, some (true, r)))
      (r₁ := 0) (r₂ := 0) (d₁ := 0) (d₂ := 0) (fd := fd)
      (mem_send m ρ c r)
      (mem_recv m ρ (nxt c r) r)
      () () N rfl (amount_send m ρ c r 0) (amount_recv m ρ (nxt c r) r 0) (oweRecv c r.succ)
      (rest_step _ r) (W := W)
      (by rw [payload_send m ρ c r]; exact BI.Entails.refl _)
      (by rw [payload_recv m ρ (nxt c r) r]; exact landed m ρ c r fd)) $$ [Hs Hd HO Ht Ht']
  · isplitr; · iapply (inv_send m ρ K (c) r); iexact HR
    isplitr; · iapply (inv_recv m ρ K (nxt c r) r); iexact HR
    isplitl [Hs]; · iexact Hs
    isplitl [Hd]; · iexact Hd
    isplitl [HO]; · iexact HO
    isplitl [Ht]; · iexact Ht
    isplitr; · iapply (reached_send m ρ K (c) r); iexact HR
    isplitl [Ht']; · iexact Ht'
    iapply (reached_recv m ρ K (nxt c r) r); iexact HR
  iintro ⟨Hc, HO⟩
  iapply Hk
  isplitl [Hc]; · iexact Hc
  iexists W
  iexact HO

/-- A send gives up the slab and the peer's slot, and pays one landing. -/
theorem send_rule (c : Dev nD) (Q : PUnit → sProp 𝕄) (r : Fin 15) (k : Pr F) :
    iprop(records m ρ K ∗ (slabPts m ρ c r ∗ slotAny (F := F) (nxt c r) r.succ ∗ dutyTok ER (sendCell c r) 0 0 ∗ dutyTok ER (recvCell (nxt c r) r) 0 0)
        ∗ Ow c (oweRecv c r.castSucc))
      ⊢ iprop(((cred (tallyAt (sendCell c r) () N) ∗ Ow c (oweRecv c r.succ)) -∗ runs c Q k) -∗ runs c Q (sendP c r k)) :=
  send_at m ρ K c (sendDev c r) r (sendDev_eq c r) Q k

/-- The barrier wait brings a slot of every peer; the barrier's cell is then done. -/
theorem barrier_rule (c : Dev nD) (Q : PUnit → sProp 𝕄) (k : Pr F) :
    iprop(records m ρ K ∗ levAts L lv ∗ cred (tallyAt (barCell c) () 15) ∗ atPos ER (barCell c) 0 ∅ 0 ∗ Ow c (oweRecv c 0))
      ⊢ iprop((((bigSep Finset.univ fun d : Fin 15 => slotAny (F := F) (nxt c d) d.succ) ∗ semVal (barCell c) 0 ∗ Ow c (oweRecv c 0)) -∗ runs c Q k)
          -∗ runs c Q (.op (.semWait barS ((15 : ℕ) : ℤ)) fun _ => k)) := by
  unfold Ow
  iintro ⟨#HR, #HL, Hc, Hat, ⟨%W, HO⟩⟩ Hk
  ihave #HI := (inv_bar m ρ K (c)) $$ HR
  iapply (Rounds.wp_wait_rest_token 𝒱₀ ER (Rd m ρ) (c : Thread nD τ) none (κ := K (c, none))
      (wpE_semWait_eq 𝒱₀ (c : Thread nD τ) none Set.univ) (Set.mem_univ _) () (O := oweRecv c 0) (W := W) (R := 0) (m := 0) (T := ∅)
      ((Nat.zero_add _).trans (expect_bar m ρ c).symm)) $$ [Hc HO Hat]
  · isplitr; · iexact HI
    isplitl [Hc]; · iexact Hc
    isplitl [HO]; · iexact HO
    isplitr; · iapply (mayWait_bar (F := F) c); iexact HL
    iexact Hat
  iintro ⟨HO, Hat, -, Hpay⟩
  ihave Hp := (Entails.of_eq (rest_bar m ρ c)) $$ Hpay
  imod (Rounds.cell_close ER (Rd m ρ) (Set.mem_univ (K (c, none))) (fun h => h) (R := 0 + 1) (duties_later m ρ (barCell c))) $$ [Hat] with Hz
  · isplitr; · iexact HI
    iexact Hat
  iapply Hk
  isplitl [Hp]; · iexact Hp
  isplitl [Hz]; · iexact Hz
  iexists _
  iexact HO

/-- The wait for a landing brings the slot filled, -/
theorem recv_rule (c : Dev nD) (Q : PUnit → sProp 𝕄) (r : Fin 15) {k : PUnit → Pr F}
    {hsrc : (slabM c r).view.WordExact} {hdst : (slotM r.succ).view.WordExact} :
    iprop(records m ρ K ∗ (cred (tallyAt (recvCell c r) () N) ∗ atPos ER (recvCell c r) 0 ∅ 0) ∗ Ow c 0)
      ⊢ iprop(((slotFull m ρ c r ∗ semVal (recvCell c r) 0 ∗ Ow c 0) -∗ runs c Q (k ⟨⟩))
          -∗ runs c Q (.op (.waitDma2 (recvS r) (slabM c r) (slotM r.succ) hsrc hdst) k)) := by
  unfold Ow
  rw [← slot_credit r.succ]
  iintro ⟨#HR, ⟨Hc, Hat⟩, ⟨%W, HO⟩⟩ Hk
  ihave #HI := (inv_recv m ρ K (c) r) $$ HR
  iapply (Rounds.wp_wait_rest_token 𝒱₀ ER (Rd m ρ) (c : Thread nD τ) none (κ := K (c, some (true, r)))
      (wpE_waitDma2_eq 𝒱₀ (c : Thread nD τ) none Set.univ) (Set.mem_univ _) () (O := 0) (W := W) (R := 0) (m := 0) (T := ∅)
      (by rw [Nat.zero_add, expect_recv]; exact slot_credit r.succ)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv m ρ c r)) $$ Hpay
  imod (Rounds.cell_close ER (Rd m ρ) (Set.mem_univ (K (c, some (true, r)))) (fun h => h) (R := 0 + 1) (duties_later m ρ (recvCell c r))) $$ [Hat] with Hz
  · isplitr; · iexact HI
    iexact Hat
  iapply Hk
  isplitl [Hp]; · iexact Hp
  isplitl [Hz]; · iexact Hz
  iexists _
  iexact HO

/-- and the wait for a send brings the slab back. -/
theorem sent_rule (c : Dev nD) (Q : PUnit → sProp 𝕄) (r : Fin 15) (k : Pr F) :
    iprop(records m ρ K ∗ (cred (tallyAt (sendCell c r) () N) ∗ atPos ER (sendCell c r) 0 ∅ 0) ∗ Ow c 0)
      ⊢ iprop(((slabPts m ρ c r ∗ semVal (sendCell c r) 0 ∗ Ow c 0) -∗ runs c Q k) -∗ runs c Q (sentP c r k)) := by
  unfold Ow sentP
  rw [← slab_credit c r]
  iintro ⟨#HR, ⟨Hc, Hat⟩, ⟨%W, HO⟩⟩ Hk
  ihave #HI := (inv_send m ρ K (c) r) $$ HR
  iapply (Rounds.wp_wait_rest_token 𝒱₀ ER (Rd m ρ) (c : Thread nD τ) none (κ := K (c, some (false, r)))
      (wpE_waitDma2_eq 𝒱₀ (c : Thread nD τ) none Set.univ) (Set.mem_univ _) () (O := 0) (W := W) (R := 0) (m := 0) (T := ∅)
      (by rw [Nat.zero_add, expect_send]; exact slab_credit c r)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send m ρ c r)) $$ Hpay
  imod (Rounds.cell_close ER (Rd m ρ) (Set.mem_univ (K (c, some (false, r)))) (fun h => h) (R := 0 + 1) (duties_later m ρ (sendCell c r))) $$ [Hat] with Hz
  · isplitr; · iexact HI
    iexact Hat
  iapply Hk
  isplitl [Hp]; · iexact Hp
  isplitl [Hz]; · iexact Hz
  iexists _
  iexact HO

end Cert.RingMatmul

end
-- ==== Proof.Fetch.lean ====
/-
# Fetching the weights

The weights stay in the large memory, and the kernel fetches them block by block into the two halves of a buffer. Each
half owns half a share of the weights, so that a fetch into one may be under way while the other is read.
-/
module

public import proofs.«01_k».proof.Proof.Comm

@[expose] public section

noncomputable section

namespace Cert.RingMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-- The share of the weights that half `j` of the buffer reads through. -/
def wShare (j : Fin 2) : PosShare TreeShare := if j = 0 then fullShare.left else fullShare.right

/-- The weights on the elements `S`, at that share. -/
def wPts (c : Dev nD) (j : Fin 2) (S : Finset (Idx ((c : Thread nD τ).loc main_arg1))) : sProp 𝕄 :=
  ((c : Thread nD τ).loc main_arg1) ↦[S]{wShare j} wAt m c

/-- The cell of half `j`. -/
abbrev pairCell (c : Dev nD) (j : Fin 2) : GSem nD τ sig := ((c : Thread nD τ), .dma (pairS j))

/-- Half `j` of the buffer, holding anything. -/
def pairAny (c : Dev nD) (j : Fin 2) : sProp 𝕄 :=
  iprop(∃ f : Buf (Elt F) ((pairM j).view.loc (c : Thread nD τ)), (pairM j).view.loc (c : Thread nD τ) ↦[(pairM j).view.set]{fullShare} f)
/-- The half of block `b`, holding that block. -/
def pairFull (c : Dev nD) (b : Fin 16) : sProp 𝕄 := owns (c : Thread nD τ) (pairM (par b)) fullShare (rowsIn m c b)

/-- Half `j` with nothing under way. -/
def Idle (c : Dev nD) (j : Fin 2) : sProp 𝕄 := iprop(pairAny (F := F) c j ∗ semVal (pairCell c j) 0 ∗ wPts m c j Finset.univ)
/-- Block `b` under way. -/
def Busy (c : Dev nD) (b : Fin 16) : sProp 𝕄 :=
  iprop(Transfers.Flight EC (c : Thread nD τ) (.dma (pairS (par b))) () NW iprop(pairFull m c b ∗ wPts m c (par b) (rowsM c b).view.set)
    ∗ wPts m c (par b) (Finset.univ \ (rowsM c b).view.set))
/-- Block `b` fetched. -/
def Held (c : Dev nD) (b : Fin 16) : sProp 𝕄 := iprop(pairFull m c b ∗ semVal (pairCell c (par b)) 0 ∗ wPts m c (par b) Finset.univ)

theorem held_idle (c : Dev nD) (b : Fin 16) : Held m c b ⊢ Idle m c (par b) := by
  unfold Held Idle pairFull pairAny owns
  iintro ⟨⟨%f, -, H⟩, Hr⟩
  isplitl [H]
  · iexists f; iexact H
  · iexact Hr

theorem w_split (c : Dev nD) (b : Fin 16) :
    (wPts m c (par b) Finset.univ : sProp 𝕄) ⊣⊢ iprop(wPts m c (par b) (rowsM c b).view.set ∗ wPts m c (par b) (Finset.univ \ (rowsM c b).view.set)) :=
  pointsTo_split_subset (Finset.subset_univ _)

/-- What the copy leaves in the half is the block. -/
theorem fetched_block (c : Dev nD) (b : Fin 16) (f : Buf (Elt F) ((pairM (par b)).view.loc (c : Thread nD τ))) :
    ((pairM (par b)).view.loc (c : Thread nD τ) ↦[(pairM (par b)).view.set]{fullShare}
        ((pairM (par b)).view.write (Elt F) f ((rowsM c b).view.read (Elt F) (wAt m c)) Finset.univ) : sProp 𝕄) ⊢ pairFull m c b := by
  unfold pairFull owns
  iintro H
  iexists ((pairM (par b)).view.write (Elt F) f ((rowsM c b).view.read (Elt F) (wAt m c)) Finset.univ)
  isplitr
  · ipureintro
    exact View.read_write_univ (v := (pairM (par b)).view) (Val := Elt F) f _
  · iexact H

theorem fetch_rule (c : Dev nD) (Q : PUnit → sProp 𝕄) (b : Fin 16) (k : Pr F) :
    Idle m c (par b) ⊢ iprop((Busy m c b -∗ runs c Q k) -∗ runs c Q (fetchP c b k)) := by
  unfold Idle Busy fetchP pairAny
  iintro ⟨⟨%f, Hd⟩, Hv, Hw⟩ Hk
  ihave Hw' := (w_split m c b).1 $$ Hw
  icases Hw' with ⟨Hs, Hr⟩
  unfold wPts
  iapply (Transfers.wp_dmaLocal EC 𝒱₀ (c : Thread nD τ) none (src := rowsM c b) (dst := pairM (par b)) (sm := .dma (pairS (par b))) (q := wShare (par b)) (fs := wAt m c)
      (Sd := (pairM (par b)).view.set) (fd := f) () NW (by exact pair_credit (par b)) NW_pos (Finset.Subset.refl _)) $$ [Hs Hd Hv]
  · isplitl [Hs]; · iexact Hs
    isplitl [Hd] <;> iassumption
  iintro HF
  iapply Hk
  isplitl [HF]
  · iapply (Transfers.Flight_mono EC (c : Thread nD τ) (sep_mono_left (fetched_block m c b f))) $$ HF
  · iexact Hr

theorem fetched_rule (c : Dev nD) (Q : PUnit → sProp 𝕄) (b : Fin 16) (k : Pr F) :
    iprop(Busy m c b ∗ Ow c 0) ⊢ iprop(((Held m c b ∗ Ow c 0) -∗ runs c Q k) -∗ runs c Q (fetchedP c b k)) := by
  unfold Held Busy fetchedP Ow
  iintro ⟨⟨HF, Hr⟩, ⟨%W, HO⟩⟩ Hk
  iapply (Transfers.wp_waitLocal EC 𝒱₀ (c : Thread nD τ) none () (pair_credit (par b))) $$ [HF HO]
  · isplitl [HF] <;> iassumption
  iintro ⟨⟨Hp, Hs⟩, Hv, HO⟩
  iapply Hk
  isplitr [HO]
  · isplitl [Hp]; · iexact Hp
    isplitl [Hv]; · iexact Hv
    iapply (w_split m c b).2
    isplitl [Hs] <;> iassumption
  · iexists _
    iexact HO

end Cert.RingMatmul

end
-- ==== Proof.Loops.lean ====
/-
# A loop over the peers

A loop is the fold of its step over the peers. If the step at `r` turns a share `A r` and a running state at `r` into
`B r` and the state at `r + 1`, the loop turns all the shares and the first state into all the results and the last.
-/
module

public import proofs.«01_k».proof.Proof.Protocol

@[expose] public section

noncomputable section

namespace Cert.RingMatmul

open Idealize.ShloMosaic
open Idealize.SL Idealize.SL.RA Idealize.SL.BI
open scoped Idealize.SL.BI
open Idealize.SL.BI.BIBase Idealize.SL.BI.Laws Idealize.SL.ProofMode Idealize.SL.Sem

/-- A conjunction over `n + 1` places is the first conjunct and those of the places after it. -/
theorem bigSep_first {M : Type} [URA M] {n : ℕ} (Φ : Fin (n + 1) → sProp M) :
    bigSep Finset.univ Φ = iprop(Φ 0 ∗ bigSep Finset.univ fun r : Fin n => Φ r.succ) := by
  classical
  have h : (Finset.univ : Finset (Fin (n + 1))) = insert 0 (Finset.univ.map (Fin.succEmb n)) := by
    ext i
    simp only [Finset.mem_univ, Finset.mem_insert, Finset.mem_map, true_and, true_iff]
    rcases Fin.eq_zero_or_eq_succ i with h | ⟨j, h⟩
    · exact .inl h
    · exact .inr ⟨j, h.symm⟩
  have h0 : (0 : Fin (n + 1)) ∉ Finset.univ.map (Fin.succEmb n) := by
    rw [Finset.mem_map]; rintro ⟨j, -, hj⟩; exact Fin.succ_ne_zero j hj
  rw [h, bigSep_insert h0, bigSep_map]
  rfl

/-- A conjunction over `n + 1` places is those of the places before the last and the last conjunct. -/
theorem bigSep_last {M : Type} [URA M] {n : ℕ} (Φ : Fin (n + 1) → sProp M) :
    bigSep Finset.univ Φ = iprop(Φ (Fin.last n) ∗ bigSep Finset.univ fun r : Fin n => Φ r.castSucc) := by
  classical
  have h : (Finset.univ : Finset (Fin (n + 1))) = insert (Fin.last n) (Finset.univ.map Fin.castSuccEmb) := by
    ext i
    simp only [Finset.mem_univ, Finset.mem_insert, Finset.mem_map, true_and, true_iff]
    rcases Fin.eq_castSucc_or_eq_last i with ⟨j, h⟩ | h
    · exact .inr ⟨j, h.symm⟩
    · exact .inl h
  have h0 : Fin.last n ∉ Finset.univ.map (Fin.castSuccEmb (n := n)) := by
    rw [Finset.mem_map]; rintro ⟨j, -, hj⟩; exact (Fin.castSucc_lt_last j).ne hj
  rw [h, bigSep_insert h0, bigSep_map]
  rfl

theorem loop_rule {M : Type} [URA M] {π : Type 1} (P : π → sProp M) {n : ℕ} (f : Fin n → π → π) (A B : Fin n → sProp M) (S : Fin (n + 1) → sProp M)
    (h : ∀ r k, iprop(A r ∗ S r.castSucc) ⊢ iprop(((B r ∗ S r.succ) -∗ P k) -∗ P (f r k))) (k : π) :
    iprop(bigSep Finset.univ A ∗ S 0) ⊢ iprop(((bigSep Finset.univ B ∗ S (Fin.last n)) -∗ P k) -∗ P ((List.finRange n).foldr f k)) := by
  induction n with
  | zero =>
    rw [List.finRange_zero, List.foldr_nil, show Fin.last 0 = 0 from rfl]
    iintro ⟨-, HS⟩ Hk
    iapply Hk
    isplitr
    · rw [Finset.univ_eq_empty, bigSep_empty]; iempintro
    · iexact HS
  | succ n ih =>
    have h0 := h 0
    have hS := ih (fun r => f r.succ) (fun r => A r.succ) (fun r => B r.succ) (fun r => S r.succ) (fun r k => h r.succ k)
    rw [Fin.castSucc_zero] at h0
    rw [Fin.succ_last] at hS
    rw [List.finRange_succ, List.foldr_cons, List.foldr_map, bigSep_first A, bigSep_first B]
    iintro ⟨⟨HA, HAs⟩, HS⟩ Hk
    iapply (h0 _) $$ [HA HS]
    · isplitl [HA] <;> iassumption
    iintro ⟨HB, HS⟩
    iapply hS $$ [HAs HS]
    · isplitl [HAs]; · iexact HAs
      iexact HS
    iintro ⟨HBs, HS⟩
    iapply Hk
    isplitl [HB HBs]
    · isplitl [HB] <;> iassumption
    · iexact HS

end Cert.RingMatmul

end
-- ==== Proof.Compute.lean ====
/-
# Computing

The steps that load and store: rounding the operand, adding one product to the sum, scaling the sum.
-/
module

public import proofs.«01_k».proof.Proof.Fetch
public import proofs.«01_k».proof.Proof.Loops

@[expose] public section

noncomputable section

namespace Cert.RingMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Ck → ℕ)

/-- A buffer of device `c`, whole, holding `f`. -/
abbrev whole (c : Dev nD) (b : Ref sig .tc) (f : b.ty.Contents (Elt F)) : sProp 𝕄 := ((c : Thread nD τ).loc b) ↦{fullShare} f
/-- The rows of the rounded operand that device `c` keeps. -/
def keptPts (c : Dev nD) : sProp 𝕄 := ((c : Thread nD τ).loc cc0_scratch0) ↦[rowsOf c]{fullShare} eAt m ρ c

theorem pair_reads (j : Fin 2) : bM.view.setOn (pairR j).toLoadRect.set ⊆ (pairM j).view.set := by
  rw [pairM_set, ← pairA_set, View.set_slice]
  exact Finset.Subset.refl _
theorem slot_reads (d : Fin 16) : lM.view.setOn (slotR d).toLoadRect.set ⊆ (slotM d).view.set := by
  rw [slotM_set, ← slotA_set, View.set_slice]
  exact Finset.Subset.refl _
theorem kept_reads (c : Dev nD) : eM.view.setOn (ownR c).toLoadRect.set ⊆ rowsOf c := by
  rw [← ownM_set, View.set_slice]
  exact Finset.Subset.refl _

theorem round_rule (c : Dev nD) (Q : PUnit → sProp 𝕄) (k : Pr F) :
    iprop(whole c cc0_stg0_0 (xAt m ρ c) ∗ ∃ f, whole c cc0_scratch0 f)
      ⊢ iprop(((whole c cc0_stg0_0 (xAt m ρ c) ∗ whole c cc0_scratch0 (eAt m ρ c)) -∗ runs c Q k) -∗ runs c Q (roundP k)) := by
  unfold roundP
  iintro ⟨Hx, ⟨%f, He⟩⟩ Hk
  iapply (wp_load 𝒱₀ (c : Thread nD τ) none Set.univ (m := xM) (Finset.subset_univ _)) $$ Hx; iintro Hx
  rw [read_x]
  iapply (wp_load 𝒱₀ (c : Thread nD τ) none Set.univ (m := eM) (Finset.subset_univ _)) $$ He; iintro He
  iapply (wp_store 𝒱₀ (c : Thread nD τ) none Set.univ (m := eM) (r := allR) (Mk := Finset.univ) (Finset.subset_univ _)) $$ He; iintro He
  rw [write_e]
  iapply Hk
  isplitl [Hx]; · iexact Hx
  iexact He

theorem own_rule (c : Dev nD) (Q : PUnit → sProp 𝕄) (k : Pr F) :
    iprop(Busy m c 0 ∗ keptPts m ρ c ∗ (∃ f, whole c cc0_stg3_0 f) ∗ Ow c 0)
      ⊢ iprop(((Idle m c (par 0) ∗ keptPts m ρ c ∗ whole c cc0_stg3_0 (sumAt m ρ c 0) ∗ Ow c 0) -∗ runs c Q k) -∗ runs c Q (ownP c k)) := by
  unfold ownP
  iintro ⟨HB, He, ⟨%f, Ho⟩, HO⟩ Hk
  iapply (fetched_rule m c Q 0 _) $$ [HB HO]
  · isplitl [HB] <;> iassumption
  unfold Held pairFull owns
  iintro ⟨⟨⟨%g, %hg, Hp⟩, Hv, Hw⟩, HO⟩
  unfold keptPts
  iapply (wp_load 𝒱₀ (c : Thread nD τ) none Set.univ (m := eM) (kept_reads c)) $$ He; iintro He
  iapply (wp_load 𝒱₀ (c : Thread nD τ) none Set.univ (m := bM) (pair_reads (par 0))) $$ Hp; iintro Hp
  iapply (wp_load 𝒱₀ (c : Thread nD τ) none Set.univ (m := oM) (Finset.subset_univ _)) $$ Ho; iintro Ho
  iapply (wp_store 𝒱₀ (c : Thread nD τ) none Set.univ (m := oM) (r := outR) (Mk := Finset.univ) (Finset.subset_univ _)) $$ Ho; iintro Ho
  rw [write_o, pay2_eq, hg]
  iapply Hk
  isplitl [Hp Hv Hw]
  · iapply (held_idle m c 0)
    unfold Held pairFull owns
    isplitl [Hp]
    · iexists g
      isplitr
      · ipureintro; exact hg
      · iexact Hp
    isplitl [Hv] <;> iassumption
  isplitl [He]; · iexact He
  isplitl [Ho]; · iexact Ho
  iexact HO

/-- What the wait for the slab of `r` needs, -/
def awaits (c : Dev nD) (r : Fin 15) : sProp 𝕄 := iprop(cred (tallyAt (recvCell c r) () N) ∗ atPos ER (recvCell c r) 0 ∅ 0)
/-- and what it leaves. -/
def arrived (c : Dev nD) (r : Fin 15) : sProp 𝕄 := iprop(slotFull m ρ c r ∗ semVal (recvCell c r) 0)

theorem add_rule (c : Dev nD) (Q : PUnit → sProp 𝕄) (r : Fin 15) (k : Pr F) :
    iprop(records m ρ K ∗ awaits c r ∗ Busy m c r.succ ∗ whole c cc0_stg3_0 (sumAt m ρ c r.castSucc) ∗ Ow c 0)
      ⊢ iprop(((arrived m ρ c r ∗ Idle m c (par r.succ) ∗ whole c cc0_stg3_0 (sumAt m ρ c r.succ) ∗ Ow c 0) -∗ runs c Q k) -∗ runs c Q (addP c r k)) := by
  unfold addP awaits
  iintro ⟨#HR, Ha, HB, Ho, HO⟩ Hk
  iapply (fetched_rule m c Q r.succ _) $$ [HB HO]
  · isplitl [HB] <;> iassumption
  unfold Held pairFull
  iintro ⟨⟨Hp, Hv, Hw⟩, HO⟩
  iapply (recv_rule m ρ K c Q r) $$ [Ha HO]
  · isplitr; · iexact HR
    isplitl [Ha] <;> iassumption
  unfold slotFull owns
  icases Hp with ⟨%g, %hg, Hp⟩
  iintro ⟨⟨%h, %hh, Hs⟩, Hz, HO⟩
  iapply (wp_load 𝒱₀ (c : Thread nD τ) none Set.univ (m := lM) (slot_reads r.succ)) $$ Hs; iintro Hs
  iapply (wp_load 𝒱₀ (c : Thread nD τ) none Set.univ (m := bM) (pair_reads (par r.succ))) $$ Hp; iintro Hp
  iapply (wp_load 𝒱₀ (c : Thread nD τ) none Set.univ (m := oM) (Finset.subset_univ _)) $$ Ho; iintro Ho
  iapply (wp_load 𝒱₀ (c : Thread nD τ) none Set.univ (m := oM) (Finset.subset_univ _)) $$ Ho; iintro Ho
  iapply (wp_store 𝒱₀ (c : Thread nD τ) none Set.univ (m := oM) (r := outR) (Mk := Finset.univ) (Finset.subset_univ _)) $$ Ho; iintro Ho
  rw [write_o, read_o, pay3_eq, hg, hh, ← sumAt_succ]
  iapply Hk
  isplitl [Hs Hz]
  · unfold arrived slotFull owns
    isplitl [Hs]
    · iexists h
      isplitr
      · ipureintro; exact hh
      · iexact Hs
    · iexact Hz
  isplitl [Hp Hv Hw]
  · iapply (held_idle m c r.succ)
    unfold Held pairFull owns
    isplitl [Hp]
    · iexists g
      isplitr
      · ipureintro; exact hg
      · iexact Hp
    isplitl [Hv] <;> iassumption
  isplitl [Ho]; · iexact Ho
  iexact HO

theorem scale_rule (c : Dev nD) (Q : PUnit → sProp 𝕄) (k : Pr F) :
    iprop(whole c cc0_stg1_0 (sxAt m ρ c) ∗ whole c cc0_stg2_0 (swAt m ρ c) ∗ whole c cc0_stg3_0 (sumAt m ρ c 15))
      ⊢ iprop(((whole c cc0_stg1_0 (sxAt m ρ c) ∗ whole c cc0_stg2_0 (swAt m ρ c) ∗ whole c cc0_stg3_0 (outAt m ρ c)) -∗ runs c Q k)
          -∗ runs c Q (scaleP k)) := by
  unfold scaleP
  iintro ⟨Ha, Hb, Ho⟩ Hk
  iapply (wp_load 𝒱₀ (c : Thread nD τ) none Set.univ (m := oM) (Finset.subset_univ _)) $$ Ho; iintro Ho
  rw [read_o]
  iapply (wp_load 𝒱₀ (c : Thread nD τ) none Set.univ (m := sxM) (Finset.subset_univ _)) $$ Ha; iintro Ha
  rw [read_sx]
  iapply (wp_load 𝒱₀ (c : Thread nD τ) none Set.univ (m := swM) (Finset.subset_univ _)) $$ Hb; iintro Hb
  rw [read_sw]
  iapply (wp_load 𝒱₀ (c : Thread nD τ) none Set.univ (m := oM) (Finset.subset_univ _)) $$ Ho; iintro Ho
  iapply (wp_store 𝒱₀ (c : Thread nD τ) none Set.univ (m := oM) (r := outR) (Mk := Finset.univ) (Finset.subset_univ _)) $$ Ho; iintro Ho
  rw [write_o]
  iapply Hk
  isplitl [Ha]; · iexact Ha
  isplitl [Hb]; · iexact Hb
  iexact Ho

/-! ## The loop over the peers -/

/-- Block `i` of the weights used, block `i + 1` under way, the first `i + 1` products summed. -/
def turn (c : Dev nD) (i : Fin 15) : sProp 𝕄 :=
  iprop(Idle m c (par i.castSucc) ∗ Busy m c i.succ ∗ whole c cc0_stg3_0 (sumAt m ρ c i.castSucc) ∗ Ow c 0)

theorem par_two (r : Fin 14) : par r.succ.succ = par r.castSucc.castSucc := Fin.ext (by show (r.val + 1 + 1) % 2 = r.val % 2; omega)

theorem turn_rule (c : Dev nD) (Q : PUnit → sProp 𝕄) (r : Fin 14) (k : Pr F) :
    iprop((records m ρ K ∗ awaits c r.castSucc) ∗ turn m ρ c r.castSucc)
      ⊢ iprop(((arrived m ρ c r.castSucc ∗ turn m ρ c r.succ) -∗ runs c Q k) -∗ runs c Q (fetchP c r.succ.succ (addP c r.castSucc k))) := by
  unfold turn
  rw [← par_two, ← Fin.succ_castSucc]
  iintro ⟨⟨#HR, Ha⟩, HI, HB, Ho, HO⟩ Hk
  iapply (fetch_rule m c Q r.succ.succ _) $$ HI
  iintro HB'
  iapply (add_rule m ρ K c Q r.castSucc k) $$ [Ha HB Ho HO]
  · isplitr; · iexact HR
    isplitl [Ha]; · iexact Ha
    isplitl [HB]; · iexact HB
    isplitl [Ho] <;> iassumption
  iintro ⟨Hl, HI, Ho, HO⟩
  iapply Hk
  isplitl [Hl]; · iexact Hl
  isplitl [HI]; · iexact HI
  isplitl [HB']; · iexact HB'
  isplitl [Ho] <;> iassumption

end Cert.RingMatmul

end
-- ==== Proof.Buffers.lean ====
/-
# Buffers in parts

The rounded operand is the rows the device keeps and the fifteen slabs it sends; the landing buffer is sixteen slots, of
which the first is never used; the weights' buffer is two halves; the weights are read through two half shares.
-/
module

public import proofs.«01_k».proof.Proof.Compute

@[expose] public section

noncomputable section

namespace Cert.RingMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- A buffer held in disjoint parts, each with some contents, is held whole with some contents, -/
theorem parts_join {T : Type} [Fintype T] [DecidableEq T] (c : Dev nD) (b : Ref sig .tc) (P : T → Finset (Idx ((c : Thread nD τ).loc b)))
    (hP : ∀ t t', t ≠ t' → Disjoint (P t) (P t')) (hC : Finset.univ.biUnion P = Finset.univ) (f₀ : b.ty.Contents (Elt F)) :
    bigSep Finset.univ (fun t => iprop(∃ f : Buf (Elt F) ((c : Thread nD τ).loc b), ((c : Thread nD τ).loc b) ↦[P t]{fullShare} f))
      ⊢ (iprop(∃ f, whole c b f) : sProp 𝕄) := by
  iintro H
  ihave H' := (BI.bigSep_exists_pi Finset.univ (fun (t : T) (f : Buf (Elt F) ((c : Thread nD τ).loc b)) =>
    ((((c : Thread nD τ).loc b) ↦[P t]{fullShare} f) : sProp 𝕄))) $$ H
  icases H' with ⟨%fs, H⟩
  ihave H' := (pointsTo_biUnion_join Finset.univ P fs f₀ fun t _ t' _ => hP t t') $$ H
  icases H' with ⟨%g, -, H⟩
  rw [hC]
  iexists g
  iexact H

/-- and one held whole is held in the parts. -/
theorem parts_split {T : Type} [Fintype T] [DecidableEq T] (c : Dev nD) (b : Ref sig .tc) (P : T → Finset (Idx ((c : Thread nD τ).loc b)))
    (hP : ∀ t t', t ≠ t' → Disjoint (P t) (P t')) (hC : Finset.univ.biUnion P = Finset.univ) (f : b.ty.Contents (Elt F)) :
    (whole c b f : sProp 𝕄) = bigSep Finset.univ (fun t => ((c : Thread nD τ).loc b) ↦[P t]{fullShare} f) := by
  rw [← pointsTo_biUnion Finset.univ P fun t _ t' _ => hP t t', hC]

theorem parts_any {T : Type} [Fintype T] [DecidableEq T] (c : Dev nD) (b : Ref sig .tc) (P : T → Finset (Idx ((c : Thread nD τ).loc b)))
    (hP : ∀ t t', t ≠ t' → Disjoint (P t) (P t')) (hC : Finset.univ.biUnion P = Finset.univ) :
    (iprop(∃ f, whole c b f) : sProp 𝕄)
      ⊢ bigSep Finset.univ (fun t => iprop(∃ f : Buf (Elt F) ((c : Thread nD τ).loc b), ((c : Thread nD τ).loc b) ↦[P t]{fullShare} f)) := by
  have h : ∀ f : b.ty.Contents (Elt F), (whole c b f : sProp 𝕄)
      ⊢ bigSep Finset.univ (fun t => iprop(∃ f : Buf (Elt F) ((c : Thread nD τ).loc b), ((c : Thread nD τ).loc b) ↦[P t]{fullShare} f)) := fun f => by
    rw [parts_split c b P hP hC f]
    exact bigSep_mono fun t _ => show ((((c : Thread nD τ).loc b) ↦[P t]{fullShare} f) : sProp 𝕄)
        ⊢ iprop(∃ f : Buf (Elt F) ((c : Thread nD τ).loc b), ((c : Thread nD τ).loc b) ↦[P t]{fullShare} f) from by
      iintro H; iexists f; iexact H
  iintro ⟨%f, H⟩
  iapply (h f) $$ H

/-! ## The rounded operand -/

theorem slabs_eq (c : Dev nD) :
    (whole c cc0_scratch0 (eAt m ρ c) : sProp 𝕄) = iprop(keptPts m ρ c ∗ bigSep Finset.univ fun r : Fin 15 => slabPts m ρ c r) := by
  rw [parts_split c cc0_scratch0 (fun d : Fin 16 => rowsOf (ahead c d)) (rowsOf_disjoint c) (rowsOf_cover c), bigSep_first, ahead_zero]
  unfold keptPts
  congr 1
  exact bigSep_congr fun r _ => by unfold slabPts; rw [slabM_set]

/-! ## The landing buffer -/

theorem slotAny_eq (c : Dev nD) (d : Fin 16) :
    (slotAny c d : sProp 𝕄) = iprop(∃ f : Buf (Elt F) ((c : Thread nD τ).loc cc0_scratch1), ((c : Thread nD τ).loc cc0_scratch1) ↦[slotSet d]{fullShare} f) := by
  unfold slotAny; rw [slotM_set]

theorem slots_split (c : Dev nD) :
    (iprop(∃ f, whole c cc0_scratch1 f) : sProp 𝕄) ⊢ iprop(slotAny c 0 ∗ bigSep Finset.univ fun r : Fin 15 => slotAny c (Fin.rev r).succ) := by
  refine (parts_any c cc0_scratch1 slotSet slotSet_disjoint slotSet_cover).trans (Entails.of_eq ?_)
  rw [show (bigSep Finset.univ fun r : Fin 15 => (slotAny c (Fin.rev r).succ : sProp 𝕄)) = bigSep Finset.univ fun r : Fin 15 => slotAny c r.succ from
    (bigSep_univ_equiv Fin.revPerm fun r : Fin 15 => (slotAny c r.succ : sProp 𝕄)).symm, ← bigSep_first fun d : Fin 16 => (slotAny c d : sProp 𝕄)]
  exact bigSep_congr fun d _ => (slotAny_eq c d).symm

theorem slots_join (c : Dev nD) (f₀ : (cc0_scratch1 : Ref sig .tc).ty.Contents (Elt F)) :
    iprop(slotAny c 0 ∗ bigSep Finset.univ fun r : Fin 15 => slotFull m ρ c r) ⊢ (iprop(∃ f, whole c cc0_scratch1 f) : sProp 𝕄) := by
  refine BIBase.Entails.trans ?_ (parts_join c cc0_scratch1 slotSet slotSet_disjoint slotSet_cover f₀)
  rw [← bigSep_congr fun d _ => slotAny_eq c d, bigSep_first fun d : Fin 16 => (slotAny c d : sProp 𝕄)]
  refine sep_mono_right (bigSep_mono fun r _ => show slotFull m ρ c r ⊢ slotAny c r.succ from ?_)
  unfold slotFull owns slotAny
  iintro ⟨%f, -, H⟩
  iexists f; iexact H

/-! ## The weights' buffer and the weights -/

theorem pairAny_eq (c : Dev nD) (j : Fin 2) :
    (pairAny c j : sProp 𝕄) = iprop(∃ f : Buf (Elt F) ((c : Thread nD τ).loc cc0_scratch2), ((c : Thread nD τ).loc cc0_scratch2) ↦[pairSet j]{fullShare} f) := by
  unfold pairAny; rw [pairM_set]

theorem bigSep_two (Φ : Fin 2 → sProp 𝕄) : bigSep Finset.univ Φ = iprop(Φ 0 ∗ Φ 1) := bigSep_univ_eq_bigSepL [0, 1] (by decide) (by decide) Φ

theorem pairs_split (c : Dev nD) : (iprop(∃ f, whole c cc0_scratch2 f) : sProp 𝕄) ⊢ iprop(pairAny c 0 ∗ pairAny c 1) := by
  refine (parts_any c cc0_scratch2 pairSet pairSet_disjoint pairSet_cover).trans (Entails.of_eq ?_)
  rw [bigSep_two, ← pairAny_eq, ← pairAny_eq]
theorem pairs_join (c : Dev nD) (f₀ : (cc0_scratch2 : Ref sig .tc).ty.Contents (Elt F)) :
    iprop(pairAny c 0 ∗ pairAny c 1) ⊢ (iprop(∃ f, whole c cc0_scratch2 f) : sProp 𝕄) := by
  refine BIBase.Entails.trans (Entails.of_eq ?_) (parts_join c cc0_scratch2 pairSet pairSet_disjoint pairSet_cover f₀)
  rw [bigSep_two, ← pairAny_eq, ← pairAny_eq]

theorem w_halves (c : Dev nD) : (whole c main_arg1 (wAt m c) : sProp 𝕄) ⊣⊢ iprop(wPts m c 0 Finset.univ ∗ wPts m c 1 Finset.univ) :=
  pointsTo_share (PosShare.mem_left_op_right fullShare)

end Cert.RingMatmul

end
-- ==== Proof.Phases.lean ====
/-
# The loops

Each loop of the body over the fifteen peers, as one step.
-/
module

public import proofs.«01_k».proof.Proof.Buffers

@[expose] public section

noncomputable section

namespace Cert.RingMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Ck → ℕ)

/-- The records are there in every turn of a loop. -/
theorem with_records {n : ℕ} (Φ : Fin n → sProp 𝕄) :
    iprop(records m ρ K ∗ bigSep Finset.univ Φ) ⊢ bigSep Finset.univ fun r => iprop(records m ρ K ∗ Φ r) :=
  bigSep_with_persistent fun _ _ => BI.Entails.refl _

/-- What signalling peer `r` takes. -/
def signals (c : Dev nD) (r : Fin 15) : sProp 𝕄 := iprop(dutyTok ER (barCell (nxt c r)) 0 (Fin.rev r) ∗ slotAny (F := F) c (Fin.rev r).succ)

theorem signals_phase (c : Dev nD) (Q : PUnit → sProp 𝕄) (k : Pr F) :
    iprop(records m ρ K ∗ (bigSep Finset.univ fun r : Fin 15 => signals (F := F) c r) ∗ Ow c (O₀ c))
      ⊢ iprop((Ow c (oweRecv c 0) -∗ runs c Q k) -∗ runs c Q ((List.finRange 15).foldr (signalP c) k)) := by
  have hloop := loop_rule (runs c Q) (signalP c) (fun r => iprop(records m ρ K ∗ signals (F := F) c r)) (fun _ => iprop(emp))
    (fun i => Ow c (oweRecv c 0 + oweBar c i)) (fun r k => by
      unfold signals
      iintro ⟨⟨#HR, Ha⟩, HO⟩ Hk
      iapply (signal_rule m ρ K c Q r k) $$ [Ha HO]
      · isplitr; · iexact HR
        isplitl [Ha] <;> iassumption
      iintro HO
      iapply Hk
      isplitr; · iempintro
      iexact HO) k
  rw [show oweBar c (Fin.last 15) = 0 from rest_last _, add_zero] at hloop
  unfold O₀
  iintro ⟨#HR, Ha, HO⟩ Hk
  iapply hloop $$ [Ha HO]
  · isplitl [Ha]
    · iapply (with_records m ρ K)
      isplitr; · iexact HR
      iexact Ha
    iexact HO
  iintro ⟨-, HO⟩
  iapply Hk $$ HO

/-- What the send to peer `r` takes. -/
def sends (c : Dev nD) (r : Fin 15) : sProp 𝕄 :=
  iprop(slabPts m ρ c r ∗ slotAny (F := F) (nxt c r) r.succ ∗ dutyTok ER (sendCell c r) 0 0 ∗ dutyTok ER (recvCell (nxt c r) r) 0 0)

theorem sends_phase (c : Dev nD) (Q : PUnit → sProp 𝕄) (k : Pr F) :
    iprop(records m ρ K ∗ (bigSep Finset.univ fun r : Fin 15 => sends m ρ c r) ∗ Ow c (oweRecv c 0))
      ⊢ iprop((((bigSep Finset.univ fun r : Fin 15 => cred (tallyAt (sendCell c r) () N)) ∗ Ow c 0) -∗ runs c Q k)
          -∗ runs c Q ((List.finRange 15).foldr (sendP c) k)) := by
  have hloop := loop_rule (runs c Q) (sendP c) (fun r => iprop(records m ρ K ∗ sends m ρ c r)) (fun r => cred (tallyAt (sendCell c r) () N))
    (fun i => Ow c (oweRecv c i)) (fun r k => by
      unfold sends
      iintro ⟨⟨#HR, Ha⟩, HO⟩ Hk
      iapply (send_rule m ρ K c Q r k) $$ [Ha HO]
      · isplitr; · iexact HR
        isplitl [Ha] <;> iassumption
      iexact Hk) k
  rw [show oweRecv c (Fin.last 15) = 0 from rest_last _] at hloop
  iintro ⟨#HR, Ha, HO⟩ Hk
  iapply hloop $$ [Ha HO]
  · isplitl [Ha]
    · iapply (with_records m ρ K)
      isplitr; · iexact HR
      iexact Ha
    iexact HO
  iexact Hk

/-- What the wait for the send to peer `r` takes, -/
def sentIn (c : Dev nD) (r : Fin 15) : sProp 𝕄 := iprop(cred (tallyAt (sendCell c r) () N) ∗ atPos ER (sendCell c r) 0 ∅ 0)
/-- and leaves. -/
def sentOut (c : Dev nD) (r : Fin 15) : sProp 𝕄 := iprop(slabPts m ρ c r ∗ semVal (sendCell c r) 0)

theorem sents_phase (c : Dev nD) (Q : PUnit → sProp 𝕄) (k : Pr F) :
    iprop(records m ρ K ∗ (bigSep Finset.univ fun r : Fin 15 => sentIn (F := F) c r) ∗ Ow c 0)
      ⊢ iprop((((bigSep Finset.univ fun r : Fin 15 => sentOut m ρ c r) ∗ Ow c 0) -∗ runs c Q k)
          -∗ runs c Q ((List.finRange 15).foldr (sentP c) k)) := by
  have hloop := loop_rule (runs c Q) (sentP c) (fun r => iprop(records m ρ K ∗ sentIn (F := F) c r)) (fun r => sentOut m ρ c r)
    (fun _ => Ow c 0) (fun r k => by
      unfold sentIn sentOut
      iintro ⟨⟨#HR, Ha⟩, HO⟩ Hk
      iapply (sent_rule m ρ K c Q r k) $$ [Ha HO]
      · isplitr; · iexact HR
        isplitl [Ha] <;> iassumption
      iintro ⟨Hs, Hv, HO⟩
      iapply Hk
      isplitl [Hs Hv]
      · isplitl [Hs] <;> iassumption
      iexact HO) k
  iintro ⟨#HR, Ha, HO⟩ Hk
  iapply hloop $$ [Ha HO]
  · isplitl [Ha]
    · iapply (with_records m ρ K)
      isplitr; · iexact HR
      iexact Ha
    iexact HO
  iexact Hk

theorem adds_phase (c : Dev nD) (Q : PUnit → sProp 𝕄) (k : Pr F) :
    iprop(records m ρ K ∗ (bigSep Finset.univ fun r : Fin 15 => awaits (F := F) c r)
        ∗ Idle m c 0 ∗ Busy m c 1 ∗ whole c cc0_stg3_0 (sumAt m ρ c 0) ∗ Ow c 0)
      ⊢ iprop((((bigSep Finset.univ fun r : Fin 15 => arrived m ρ c r) ∗ Idle m c 0 ∗ Idle m c 1 ∗ whole c cc0_stg3_0 (sumAt m ρ c 15) ∗ Ow c 0)
            -∗ runs c Q k)
          -∗ runs c Q ((List.finRange 14).foldr (fun r k => fetchP c r.succ.succ (addP c r.castSucc k)) (addP c 14 k))) := by
  have hloop := loop_rule (runs c Q) (fun (r : Fin 14) k => fetchP c r.succ.succ (addP c r.castSucc k))
    (fun r => iprop(records m ρ K ∗ awaits (F := F) c r.castSucc)) (fun r => arrived m ρ c r.castSucc)
    (turn m ρ c) (fun r k => turn_rule m ρ K c Q r k) (addP c 14 k)
  have h0 : turn m ρ c 0 = iprop(Idle m c 0 ∗ Busy m c 1 ∗ whole c cc0_stg3_0 (sumAt m ρ c 0) ∗ Ow c 0) := rfl
  have hl : turn m ρ c (Fin.last 14) = iprop(Idle m c 0 ∗ Busy m c (14 : Fin 15).succ ∗ whole c cc0_stg3_0 (sumAt m ρ c (14 : Fin 15).castSucc) ∗ Ow c 0) := rfl
  have hadd := add_rule m ρ K c Q 14 k
  rw [show par (14 : Fin 15).succ = 1 from rfl, show (14 : Fin 15).succ = 15 from rfl] at hadd
  rw [show (14 : Fin 15).succ = 15 from rfl] at hl
  rw [h0, hl] at hloop
  rw [bigSep_last (fun r : Fin 15 => awaits (F := F) c r), bigSep_last (fun r : Fin 15 => arrived m ρ c r), show Fin.last 14 = 14 from rfl]
  iintro ⟨#HR, ⟨Hl, Ha⟩, HS⟩ Hk
  iapply hloop $$ [Ha HS]
  · isplitl [Ha]
    · iapply (with_records m ρ K)
      isplitr; · iexact HR
      iexact Ha
    iexact HS
  iintro ⟨HB, HI, HBu, Ho, HO⟩
  iapply hadd $$ [Hl HBu Ho HO]
  · isplitr; · iexact HR
    isplitl [Hl]; · iexact Hl
    isplitl [HBu]; · iexact HBu
    isplitl [Ho] <;> iassumption
  iintro ⟨Hl, HI', Ho, HO⟩
  iapply Hk
  isplitl [HB Hl]
  · isplitl [Hl] <;> iassumption
  isplitl [HI]; · iexact HI
  isplitl [HI']; · iexact HI'
  isplitl [Ho] <;> iassumption

end Cert.RingMatmul

end
-- ==== Proof.Body.lean ====
/-
# The body

What a device starts from, what it ends with, and that its body takes it from the one to the other.
-/
module

public import proofs.«01_k».proof.Proof.Phases
public import proofs.«01_k».proof.Proof.Gen.KernelIdeal.Launch
public import proofs.«01_k».proof.Proof.Gen.KernelIdeal.Points

@[expose] public section

noncomputable section

namespace Cert.RingMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Ck → ℕ)

/-! ## What a device starts from -/

/-- The semaphores of the first places, which count nothing. -/
abbrev spareSend : DmaSem sig := semAt cc0_scratch3 0
abbrev spareRecv : DmaSem sig := semAt cc0_scratch4 0

/-- Device `c`'s positions at its cells, -/
def places (c : Dev nD) : sProp 𝕄 :=
  iprop(atPos ER (barCell c) 0 ∅ 0 ∗ (bigSep Finset.univ fun r : Fin 15 => atPos ER (sendCell c r) 0 ∅ 0)
    ∗ bigSep Finset.univ fun r : Fin 15 => atPos ER (recvCell c r) 0 ∅ 0)
/-- the duties it pays, -/
def duties (c : Dev nD) : sProp 𝕄 :=
  iprop((bigSep Finset.univ fun r : Fin 15 => dutyTok ER (barCell (nxt c r)) 0 (Fin.rev r))
    ∗ (bigSep Finset.univ fun r : Fin 15 => dutyTok ER (sendCell c r) 0 0)
    ∗ bigSep Finset.univ fun r : Fin 15 => dutyTok ER (recvCell (nxt c r) r) 0 0)
/-- what the launch lends it, -/
def credits (c : Dev nD) : sProp 𝕄 :=
  iprop(cred (tallyAt (barCell c) () 15) ∗ bigSep Finset.univ fun r : Fin 15 => cred (tallyAt (recvCell c r) () N))
/-- and its semaphores that are no cells. -/
def plain (c : Dev nD) : sProp 𝕄 :=
  iprop(semVal ((c : Thread nD τ), .dma spareSend) 0 ∗ semVal ((c : Thread nD τ), .dma spareRecv) 0 ∗ semVal (pairCell c 0) 0 ∗ semVal (pairCell c 1) 0)

def ghost (c : Dev nD) : sProp 𝕄 := iprop(records m ρ K ∗ places (F := F) c ∗ duties (F := F) c ∗ plain (F := F) c)
def start (c : Dev nD) : sProp 𝕄 := iprop((∃ K, ghost m ρ K c) ∗ credits (F := F) c ∗ levAts L lv ∗ whole c main_arg1 (wAt m c))
/-- The three buffers of the kernel's own. -/
def scratches (c : Dev nD) : sProp 𝕄 :=
  iprop((∃ f, whole c cc0_scratch0 f) ∗ (∃ f, whole c cc0_scratch1 f) ∗ ∃ f, whole c cc0_scratch2 f)

def Φ₀ (c : Dev nD) : sProp 𝕄 := iprop(start m ρ c ∗ scratches (F := F) c)
/-- At the end every semaphore is back at zero and the weights are as they were. -/
def Φ₁ (c : Dev nD) : sProp 𝕄 :=
  iprop(scratches (F := F) c ∗ semVal (barCell c) 0 ∗ (bigSep Finset.univ fun r : Fin 15 => semVal (sendCell c r) 0)
    ∗ (bigSep Finset.univ fun r : Fin 15 => semVal (recvCell c r) 0) ∗ plain (F := F) c ∗ whole c main_arg1 (wAt m c))

def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => xAt m ρ c
    | ⟨1, _⟩ => sxAt m ρ c
    | ⟨2, _⟩ => swAt m ρ c
    | ⟨3, _⟩ => outAt m ρ c
  Φ t := match t with
    | ⟨0, _⟩ => Φ₀ m ρ c
    | ⟨_ + 1, _⟩ => Φ₁ m c
  q _ := fullShare
  owed t := match t with
    | ⟨0, _⟩ => O₀ c
    | ⟨_ + 1, _⟩ => 0

/-! ## The body -/

theorem bigSep_join {n : ℕ} (Φ Ψ : Fin n → sProp 𝕄) :
    iprop((bigSep Finset.univ Φ) ∗ bigSep Finset.univ Ψ) ⊢ bigSep Finset.univ fun r => iprop(Φ r ∗ Ψ r) :=
  Entails.of_eq (bigSep_sep' _ _ _).symm

/-- The four windows' buffers at the start, -/
def before (c : Dev nD) : sProp 𝕄 :=
  iprop(whole c cc0_stg0_0 (xAt m ρ c) ∗ whole c cc0_stg1_0 (sxAt m ρ c) ∗ whole c cc0_stg2_0 (swAt m ρ c) ∗ ∃ f, whole c cc0_stg3_0 f)
/-- and at the end. -/
def after (c : Dev nD) : sProp 𝕄 :=
  iprop(whole c cc0_stg0_0 (xAt m ρ c) ∗ whole c cc0_stg1_0 (sxAt m ρ c) ∗ whole c cc0_stg2_0 (swAt m ρ c) ∗ whole c cc0_stg3_0 (outAt m ρ c))

set_option maxHeartbeats 1600000 in
theorem flow_runs (c : Dev nD) (Q : PUnit → sProp 𝕄) :
    iprop((ghost m ρ K c ∗ credits (F := F) c ∗ levAts L lv ∗ whole c main_arg1 (wAt m c)) ∗ scratches (F := F) c ∗ Ow c (O₀ c) ∗ before m ρ c)
      ⊢ iprop(((Φ₁ m c ∗ Ow c 0 ∗ after m ρ c) -∗ Q ⟨⟩) -∗ runs c Q (flow c)) := by
  unfold flow ghost places duties credits plain scratches before
  iintro ⟨⟨⟨#HR, ⟨HatB, HatS, HatV⟩, ⟨HtB, HtS, HtV⟩, Hs0, Hs1, Hp0, Hp1⟩, ⟨HcB, HcV⟩, #HL, Hw⟩, ⟨He, Hl, Hb⟩, HO, Hx, Hsx, Hsw, Ho⟩ Hk
  -- the slots go out with the signals
  ihave Hl' := (slots_split c) $$ Hl
  icases Hl' with ⟨Hl0, Hl⟩
  ihave HA := (bigSep_join _ _) $$ [HtB Hl]
  · isplitl [HtB]; · iexact HtB
    iexact Hl
  iapply (signals_phase m ρ K c Q _) $$ [HA HO]
  · isplitr; · iexact HR
    isplitl [HA]; · iexact HA
    iexact HO
  iintro HO
  -- the peers' slots come with the wait
  iapply (barrier_rule m ρ K c Q _) $$ [HcB HatB HO]
  · isplitr; · iexact HR
    isplitr; · iexact HL
    isplitl [HcB]; · iexact HcB
    isplitl [HatB] <;> iassumption
  iintro ⟨Hl, HzB, HO⟩
  iapply (round_rule m ρ c Q _) $$ [Hx He]
  · isplitl [Hx] <;> iassumption
  iintro ⟨Hx, He⟩
  -- the slabs go out with the sends
  ihave He' := (Entails.of_eq (slabs_eq m ρ c)) $$ He
  icases He' with ⟨He, Hsl⟩
  ihave HA := (bigSep_join _ _) $$ [HtS HtV]
  · isplitl [HtS]; · iexact HtS
    iexact HtV
  ihave HA' := (bigSep_join _ _) $$ [Hl HA]
  · isplitl [Hl]; · iexact Hl
    iexact HA
  ihave HA := (bigSep_join _ _) $$ [Hsl HA']
  · isplitl [Hsl]; · iexact Hsl
    iexact HA'
  iapply (sends_phase m ρ K c Q _) $$ [HA HO]
  · isplitr; · iexact HR
    isplitl [HA]; · iexact HA
    iexact HO
  iintro ⟨HcS, HO⟩
  -- the first two blocks of the weights
  ihave Hb' := (pairs_split c) $$ Hb
  icases Hb' with ⟨Hb0, Hb1⟩
  ihave Hw' := (w_halves m c).1 $$ Hw
  icases Hw' with ⟨Hw0, Hw1⟩
  iapply (fetch_rule m c Q 0 _) $$ [Hb0 Hp0 Hw0]
  · unfold Idle
    isplitl [Hb0]; · iexact Hb0
    isplitl [Hp0]; · iexact Hp0
    iexact Hw0
  iintro HB0
  iapply (fetch_rule m c Q 1 _) $$ [Hb1 Hp1 Hw1]
  · unfold Idle
    isplitl [Hb1]; · iexact Hb1
    isplitl [Hp1]; · iexact Hp1
    iexact Hw1
  iintro HB1
  iapply (own_rule m ρ c Q _) $$ [HB0 He Ho HO]
  · isplitl [HB0]; · iexact HB0
    isplitl [He]; · iexact He
    isplitl [Ho]; · iexact Ho
    iexact HO
  iintro ⟨HI0, He, Ho, HO⟩
  -- the sum
  ihave HA := (bigSep_join _ _) $$ [HcV HatV]
  · isplitl [HcV]; · iexact HcV
    iexact HatV
  iapply (adds_phase m ρ K c Q _) $$ [HA HI0 HB1 Ho HO]
  · isplitr; · iexact HR
    isplitl [HA]; · iexact HA
    isplitl [HI0]; · iexact HI0
    isplitl [HB1]; · iexact HB1
    isplitl [Ho] <;> iassumption
  iintro ⟨Har, HI0, HI1, Ho, HO⟩
  iapply (scale_rule m ρ c Q _) $$ [Hsx Hsw Ho]
  · isplitl [Hsx]; · iexact Hsx
    isplitl [Hsw] <;> iassumption
  iintro ⟨Hsx, Hsw, Ho⟩
  -- the slabs come back
  ihave HA := (bigSep_join _ _) $$ [HcS HatS]
  · isplitl [HcS]; · iexact HcS
    iexact HatS
  iapply (sents_phase m ρ K c Q _) $$ [HA HO]
  · isplitr; · iexact HR
    isplitl [HA]; · iexact HA
    iexact HO
  iintro ⟨Hso, HO⟩
  unfold runs
  rw [wp_ret]
  imodintro
  iapply Hk
  unfold Φ₁ after scratches plain
  ihave Har' := (Entails.of_eq (show (bigSep Finset.univ fun r : Fin 15 => arrived m ρ c r)
      = iprop((bigSep Finset.univ fun r : Fin 15 => slotFull m ρ c r) ∗ bigSep Finset.univ fun r : Fin 15 => semVal (recvCell c r) 0) from
    bigSep_sep' _ _ _)) $$ Har
  icases Har' with ⟨Hl, HzV⟩
  ihave Hso' := (Entails.of_eq (show (bigSep Finset.univ fun r : Fin 15 => sentOut m ρ c r)
      = iprop((bigSep Finset.univ fun r : Fin 15 => slabPts m ρ c r) ∗ bigSep Finset.univ fun r : Fin 15 => semVal (sendCell c r) 0) from
    bigSep_sep' _ _ _)) $$ Hso
  icases Hso' with ⟨Hsl, HzS⟩
  unfold Idle
  icases HI0 with ⟨Hb0, Hp0, Hw0⟩
  icases HI1 with ⟨Hb1, Hp1, Hw1⟩
  isplitr [HO Hx Hsx Hsw Ho]
  · isplitl [He Hsl Hl0 Hl Hb0 Hb1]
    · isplitl [He Hsl]
      · iexists (eAt m ρ c)
        iapply (Entails.of_eq (slabs_eq m ρ c).symm)
        isplitl [He] <;> iassumption
      isplitl [Hl0 Hl]
      · iapply (slots_join m ρ c (m ((c : Thread nD τ).loc cc0_scratch1)))
        isplitl [Hl0] <;> iassumption
      · iapply (pairs_join c (m ((c : Thread nD τ).loc cc0_scratch2)))
        isplitl [Hb0] <;> iassumption
    isplitl [HzB]; · iexact HzB
    isplitl [HzS]; · iexact HzS
    isplitl [HzV]; · iexact HzV
    isplitl [Hs0 Hs1 Hp0 Hp1]
    · isplitl [Hs0]; · iexact Hs0
      isplitl [Hs1]; · iexact Hs1
      isplitl [Hp0] <;> iassumption
    · iapply (w_halves m c).2
      isplitl [Hw0] <;> iassumption
  isplitl [HO]; · iexact HO
  isplitl [Hx]; · iexact Hx
  isplitl [Hsx]; · iexact Hsx
  isplitl [Hsw] <;> iassumption

/-! ## The obligation -/

abbrev t₀ : Fin cfg0.N := t0_0
theorem fin_N (t : Fin cfg0.N) : t = t₀ := fin_N0 t
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A window's buffer holding `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 4) t₀ d)) ∗ (∃ d, stg c cc0_stg1_0 ((dats m ρ 0 c).before (1 : Fin 4) t₀ d))
    ∗ (∃ d, stg c cc0_stg2_0 ((dats m ρ 0 c).before (2 : Fin 4) t₀ d)) ∗ (∃ d, stg c cc0_stg3_0 ((dats m ρ 0 c).before (3 : Fin 4) t₀ d)))
def bodyPost (c : Dev nD) : sProp 𝕄 :=
  iprop(Φ₁ m c ∗ (dats m ρ 0 c).owesAt () t₀.succ
    ∗ stg c cc0_stg0_0 (xAt m ρ c) ∗ stg c cc0_stg1_0 (sxAt m ρ c) ∗ stg c cc0_stg2_0 (swAt m ρ c) ∗ stg c cc0_stg3_0 (outAt m ρ c))

theorem stg_intro (c : Dev nD) (b : Ref sig .tc) (X : b.ty.Contents (Elt F)) : (whole c b X : sProp 𝕄) ⊢ stg c b X := by
  iintro H
  iexists X
  isplitr
  · ipureintro; rfl
  · iexact H

theorem bodyPre_flow (c : Dev nD) : bodyPre m ρ c
    ⊢ iprop((∃ K, ghost m ρ K c ∗ credits (F := F) c ∗ levAts L lv ∗ whole c main_arg1 (wAt m c)) ∗ scratches (F := F) c ∗ Ow c (O₀ c) ∗ before m ρ c) := by
  unfold bodyPre Φ₀ start before Ow Pipeline.Dat.owesAt Pipeline.owesWithin
  rw [show (dats m ρ 0 c).owed t₀.castSucc = O₀ c from rfl]
  iintro ⟨⟨⟨⟨%K, Hg⟩, Hr⟩, Hs⟩, ⟨%W, -, HO⟩, ⟨%d0, %g0, %h0, Hx⟩, ⟨%d1, %g1, %h1, Hsx⟩, ⟨%d2, %g2, %h2, Hsw⟩, ⟨%d3, %g3, %h3, Ho⟩⟩
  have e0 : g0 = xAt m ρ c := by rw [h0]; unfold Pipeline.Dat.before; rw [if_pos (fetch0_0 t₀)]; rfl
  have e1 : g1 = sxAt m ρ c := by rw [h1]; unfold Pipeline.Dat.before; rw [if_pos (fetch0_1 t₀)]; rfl
  have e2 : g2 = swAt m ρ c := by rw [h2]; unfold Pipeline.Dat.before; rw [if_pos (fetch0_2 t₀)]; rfl
  subst e0 e1 e2
  isplitl [Hg Hr]
  · iexists K
    isplitl [Hg]; · iexact Hg
    iexact Hr
  isplitl [Hs]; · iexact Hs
  isplitl [HO]
  · iexists W; iexact HO
  isplitl [Hx]; · iexact Hx
  isplitl [Hsx]; · iexact Hsx
  isplitl [Hsw]; · iexact Hsw
  iexists g3
  iexact Ho

theorem flow_bodyPost (c : Dev nD) : iprop(Φ₁ m c ∗ Ow c 0 ∗ after m ρ c) ⊢ bodyPost m ρ c := by
  unfold bodyPost after Ow Pipeline.Dat.owesAt Pipeline.owesWithin
  rw [show (dats m ρ 0 c).owed t₀.succ = 0 from rfl]
  iintro ⟨HΦ, ⟨%W, HO⟩, Hx, Hsx, Hsw, Ho⟩
  isplitl [HΦ]; · iexact HΦ
  isplitl [HO]
  · iexists W
    isplitr
    · ipureintro; exact fun _ _ => Or.inl trivial
    · iexact HO
  isplitl [Hx]; · iapply (stg_intro c cc0_stg0_0 (xAt m ρ c)) $$ Hx
  isplitl [Hsx]; · iapply (stg_intro c cc0_stg1_0 (sxAt m ρ c)) $$ Hsx
  isplitl [Hsw]; · iapply (stg_intro c cc0_stg2_0 (swAt m ρ c)) $$ Hsw
  iapply (stg_intro c cc0_stg3_0 (outAt m ρ c)) $$ Ho

theorem body_runs (c : Dev nD) : bodyPre m ρ c ⊢ wp frame (wpE (defs₀ (F := F)) 𝒱₀ (c : Thread nD τ) none) Set.univ
    (cc0_body (F := F) xM (Memref.isWhole_whole _) wM (Memref.isWhole_whole _) sxM (Memref.isWhole_whole _) swM (Memref.isWhole_whole _)
        oM (Memref.isWhole_whole _) eM (Memref.isWhole_whole _) lM (Memref.isWhole_whole _) bM (Memref.isWhole_whole _) cc0_scratch3 cc0_scratch4 cc0_scratch5)
    (fun _ => bodyPost m ρ c) := by
  rw [body_eq_flow]
  simp only [wp_deviceId]
  iintro H
  ihave H' := (bodyPre_flow m ρ c) $$ H
  icases H' with ⟨⟨%K, Hg⟩, Hr⟩
  iapply (flow_runs m ρ K c (fun _ => bodyPost m ρ c)) $$ [Hg Hr]
  · isplitl [Hg]; · iexact Hg
    iexact Hr
  iintro H
  iapply (flow_bodyPost m ρ c) $$ H

set_option maxRecDepth 65536 in
theorem body_obligation (c : Dev nD) : Pipeline.BodyObligation (dats (F := F) m ρ 0 c) (defs₀ (F := F)) 𝒱₀ () Set.univ := fun t => by
  rw [fin_N t, bigSep_W0, bigSep_W0]
  simp only [owns_whole_eq]
  exact body_runs m ρ c

end Cert.RingMatmul

end
-- ==== Proof.Cells.lean ====
/-
# Setting the cells up

From zero counters and the launch's ghost state to the cells of every device, each with its invariant, and the tokens
dealt round: a duty belongs to the device that pays it.
-/
module

public import proofs.«01_k».proof.Proof.Body

@[expose] public section

noncomputable section

namespace Cert.RingMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- They are numbered in a row: the sends', the landings', the two of the weights. -/
def osem (i : Fin 34) : SemLoc sig := .dma ⟨4 + i.val, by have := i.isLt; show 4 + i.val < 38; omega⟩

theorem ownSemFacts : Pipeline.OwnSemFacts cfg0.spec osem := by decide +kernel

theorem osem_send (d : Fin 16) : osem (finSumFinEquiv (m := 32) (n := 2) (.inl (finSumFinEquiv (m := 16) (n := 16) (.inl d)))) = .dma (semAt cc0_scratch3 d) := by
  revert d; decide +kernel
theorem osem_recv (d : Fin 16) : osem (finSumFinEquiv (m := 32) (n := 2) (.inl (finSumFinEquiv (m := 16) (n := 16) (.inr d)))) = .dma (semAt cc0_scratch4 d) := by
  revert d; decide +kernel
theorem osem_pair (j : Fin 2) : osem (finSumFinEquiv (m := 32) (n := 2) (.inr j)) = .dma (pairS j) := by
  revert j; decide +kernel

theorem ownSems0_eq (c : Dev nD) : (Pipeline.ownSems0 (Ix := Unit) (Name := ℕ) (U := UU) (Lvl := ℕ) (Val := Elt F) (τ := τ) osem c : sProp 𝕄)
    = iprop((((semVal ((c : Thread nD τ), .dma spareSend) 0 ∗ bigSep Finset.univ fun r : Fin 15 => semVal (sendCell c r) 0)
        ∗ (semVal ((c : Thread nD τ), .dma spareRecv) 0 ∗ bigSep Finset.univ fun r : Fin 15 => semVal (recvCell c r) 0)))
        ∗ (semVal (pairCell c 0) 0 ∗ semVal (pairCell c 1) 0)) := by
  unfold Pipeline.ownSems0
  rw [bigSep_univ_equiv (finSumFinEquiv (m := 32) (n := 2)), bigSep_univ_sum, bigSep_univ_equiv (finSumFinEquiv (m := 16) (n := 16)), bigSep_univ_sum]
  simp only [osem_send, osem_recv, osem_pair]
  rw [bigSep_first (fun d : Fin 16 => (semVal ((c : Thread nD τ), .dma (semAt cc0_scratch3 d)) 0 : sProp 𝕄)),
    bigSep_first (fun d : Fin 16 => (semVal ((c : Thread nD τ), .dma (semAt cc0_scratch4 d)) 0 : sProp 𝕄)), bigSep_two]
  rfl

theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## Families over the cells -/

/-- The cells of a device: the barrier's, the sends', the landings'. -/
def ckEquiv : Unit ⊕ (Fin 15 ⊕ Fin 15) ≃ Ck where
  toFun
    | .inl _ => none
    | .inr (.inl r) => some (false, r)
    | .inr (.inr r) => some (true, r)
  invFun
    | none => .inl ()
    | some (false, r) => .inr (.inl r)
    | some (true, r) => .inr (.inr r)
  left_inv := by rintro (_ | _ | _) <;> rfl
  right_inv := by rintro (_ | ⟨_ | _, _⟩) <;> rfl

theorem bigSep_ck (Φ : Ck → sProp 𝕄) : bigSep Finset.univ Φ
    = iprop(Φ none ∗ (bigSep Finset.univ fun r => Φ (some (false, r))) ∗ bigSep Finset.univ fun r => Φ (some (true, r))) := by
  rw [bigSep_univ_equiv ckEquiv, bigSep_univ_sum, bigSep_univ_sum, Finset.univ_unique, bigSep_singleton]
  rfl

/-- From the zero counters, those of the cells and the rest. -/
theorem sems_split (c : Dev nD) :
    iprop(Pipeline.ownSems0 (Ix := Unit) (Name := ℕ) (U := UU) (Lvl := ℕ) (Val := Elt F) (τ := τ) osem c ∗ unscopedSems0 c)
      ⊢ (iprop((bigSep Finset.univ fun k : Ck => semVal (kcell c k) 0) ∗ plain c) : sProp 𝕄) := by
  rw [ownSems0_eq, unscopedSems0_eq, bigSep_ck]
  unfold plain
  iintro ⟨⟨⟨⟨H0, HS⟩, H1, HV⟩, H2, H3⟩, HB⟩
  isplitl [HB HS HV]
  · isplitl [HB]; · iexact HB
    isplitl [HS]; · iexact HS
    iexact HV
  · isplitl [H0]; · iexact H0
    isplitl [H1]; · iexact H1
    isplitl [H2] <;> iassumption

/-! ## The launch's ghost state -/

theorem kcell_inj : Function.Injective fun ck : Dev nD × Ck => (kcell ck.1 ck.2 : GSem nD τ sig) := by
  rintro ⟨c, k⟩ ⟨c', k'⟩ h
  have h1 : c = c' := congrArg (fun g : GSem nD τ sig => g.1.1) h
  have h2 : k = k' := csem_inj (congrArg (fun g : GSem nD τ sig => g.2) h)
  rw [h1, h2]
def allCells : Finset (GSem nD τ sig) := Finset.univ.map ⟨_, kcell_inj⟩

/-- The duties of a device's cells: the barrier's fifteen, one of each other cell. -/
abbrev Tk : Type := Fin 15 ⊕ (Fin 15 ⊕ Fin 15)
def tok : Tk → Ck × Fin 15
  | .inl d => (none, d)
  | .inr (.inl r) => (some (false, r), 0)
  | .inr (.inr r) => (some (true, r), 0)
theorem tok_inj : Function.Injective tok := by
  rintro (a | a | a) (b | b | b) h <;> simp only [tok, Prod.mk.injEq, Option.some.injEq, reduceCtorEq, false_and, true_and, and_true, Bool.false_eq_true] at h <;> rw [h]
abbrev tokAt (cj : Dev nD × Tk) : GSem nD τ sig × ℕ × Fin 15 := (kcell cj.1 (tok cj.2).1, 0, (tok cj.2).2)
theorem tokAt_inj : Function.Injective (tokAt : Dev nD × Tk → GSem nD τ sig × ℕ × Fin 15) := by
  rintro ⟨c, j⟩ ⟨c', j'⟩ h
  have h1 : (c, (tok j).1) = (c', (tok j').1) := kcell_inj (congrArg (fun x : GSem nD τ sig × ℕ × Fin 15 => x.1) h)
  have h2 : (tok j).2 = (tok j').2 := congrArg (fun x : GSem nD τ sig × ℕ × Fin 15 => x.2.2) h
  rw [Prod.mk.injEq] at h1
  rw [h1.1, tok_inj (Prod.ext h1.2 h2)]
def allToks : Finset (GSem nD τ sig × ℕ × Fin 15) := Finset.univ.map ⟨tokAt, tokAt_inj⟩

/-- The duties of device `c`'s own cells. -/
def ownDuties (c : Dev nD) : sProp 𝕄 :=
  iprop((bigSep Finset.univ fun d : Fin 15 => dutyTok ER (barCell c) 0 d)
    ∗ (bigSep Finset.univ fun r : Fin 15 => dutyTok ER (sendCell c r) 0 0)
    ∗ bigSep Finset.univ fun r : Fin 15 => dutyTok ER (recvCell c r) 0 0)

/-- What the launch's ghost state gives device `c`. -/
def G (c : Dev nD) : sProp 𝕄 :=
  iprop((bigSep Finset.univ fun k : Ck => roundState ER (Rd m ρ) (kcell c k) 0)
    ∗ (bigSep Finset.univ fun k : Ck => iprop(atPos ER (kcell c k) 0 ∅ 0 ∗ reached ER (kcell c k) 0)) ∗ ownDuties c)

theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Ck => Φ (kcell c k) := by
    unfold allCells; rw [bigSep_map, bigSep_univ_prod]; rfl
  have hT : bigSep allToks (fun x => (dutyTok ER x.1 x.2.1 x.2.2 : sProp 𝕄)) = bigSep Finset.univ fun c : Dev nD => ownDuties c := by
    unfold allToks; rw [bigSep_map, bigSep_univ_prod]
    exact bigSep_congr fun c _ => by unfold ownDuties; rw [bigSep_univ_sum, bigSep_univ_sum]; rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The invariants -/

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell c k)))
          ∗ (bigSep Finset.univ fun k => iprop(atPos ER (kcell c k) 0 ∅ 0 ∗ reached ER (kcell c k) 0)) ∗ ownDuties c ∗ plain c) := by
  unfold G
  iintro ⟨Hos, Hus, Hst, Hat, Htok⟩
  ihave Hv := (sems_split (F := F) c) $$ [Hos Hus]
  · isplitl [Hos] <;> iassumption
  icases Hv with ⟨Hv, Hp⟩
  imod (show iprop((bigSep Finset.univ fun k : Ck => semVal (kcell c k) 0) ∗ bigSep Finset.univ fun k : Ck => roundState ER (Rd m ρ) (kcell c k) 0)
      ⊢ (|={Set.univ}=> bigSep Finset.univ fun k => iprop(∃ κ : ℕ, cellInv ER (Rd m ρ) κ (kcell c k)) : sProp 𝕄) from by
        rw [← bigSep_sep']
        exact (bigSep_mono fun k _ => (Rounds.body_intro ER (Rd m ρ) (kcell c k)).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-! ## The duties dealt round -/

/-- A signal's duty and the device it belongs to: going round and back. -/
def turnBack : Dev nD × Fin 15 ≃ Dev nD × Fin 15 where
  toFun x := (nxt x.1 x.2, Fin.rev x.2)
  invFun x := (nxt x.1 x.2, Fin.rev x.2)
  left_inv x := Prod.ext (nxt_rev x.1 x.2) (Fin.rev_rev x.2)
  right_inv x := Prod.ext (nxt_rev x.1 x.2) (Fin.rev_rev x.2)
def goOn : Dev nD × Fin 15 ≃ Dev nD × Fin 15 where
  toFun x := (nxt x.1 x.2, x.2)
  invFun x := (prv x.1 x.2, x.2)
  left_inv x := Prod.ext (behind_ahead x.1 x.2.succ) rfl
  right_inv x := Prod.ext (ahead_behind x.1 x.2.succ) rfl

theorem duties_round : (bigSep Finset.univ fun c : Dev nD => (ownDuties c : sProp 𝕄)) ⊢ bigSep Finset.univ fun c : Dev nD => duties c := by
  unfold ownDuties duties
  simp only [bigSep_sep']
  rw [← bigSep_univ_prod (fun x : Dev nD × Fin 15 => (dutyTok ER (barCell x.1) 0 x.2 : sProp 𝕄)),
    bigSep_univ_equiv turnBack (fun x : Dev nD × Fin 15 => (dutyTok ER (barCell x.1) 0 x.2 : sProp 𝕄)), bigSep_univ_prod,
    ← bigSep_univ_prod (fun x : Dev nD × Fin 15 => (dutyTok ER (recvCell x.1 x.2) 0 0 : sProp 𝕄)),
    bigSep_univ_equiv goOn (fun x : Dev nD × Fin 15 => (dutyTok ER (recvCell x.1 x.2) 0 0 : sProp 𝕄)), bigSep_univ_prod]
  exact Entails.of_eq rfl

/-! ## Every device's share -/

theorem ghost_intro (K : Dev nD × Ck → ℕ) (c : Dev nD) :
    iprop(records m ρ K ∗ ((bigSep Finset.univ fun k : Ck => atPos ER (kcell c k) 0 ∅ 0) ∗ duties c ∗ plain c)) ⊢ iprop(∃ K, ghost m ρ K c) := by
  unfold ghost places
  rw [bigSep_ck]
  iintro ⟨#HR, Hat, Hd, Hp⟩
  iexists K
  isplitr; · iexact HR
  isplitl [Hat]; · iexact Hat
  isplitl [Hd] <;> iassumption

theorem regroup :
    (bigSep Finset.univ fun c : Dev nD => iprop((bigSep Finset.univ fun k => iprop(∃ κ : ℕ, cellInv ER (Rd m ρ) κ (kcell c k)))
          ∗ (bigSep Finset.univ fun k => iprop(atPos ER (kcell c k) 0 ∅ 0 ∗ reached ER (kcell c k) 0)) ∗ ownDuties c ∗ plain c) : sProp 𝕄)
      ⊢ bigSep Finset.univ fun c => iprop(∃ K, ghost m ρ K c) := by
  simp only [bigSep_sep']
  rw [← bigSep_univ_prod (fun ck : Dev nD × Ck => iprop(∃ κ : ℕ, cellInv ER (Rd m ρ) κ (kcell ck.1 ck.2))),
    ← bigSep_univ_prod (fun ck : Dev nD × Ck => (reached ER (kcell ck.1 ck.2) 0 : sProp 𝕄))]
  iintro ⟨HI, ⟨Hat, #HR⟩, Htok, Hp⟩
  ihave HK := (BI.bigSep_exists_pi Finset.univ (fun (ck : Dev nD × Ck) (κ : ℕ) => (cellInv ER (Rd m ρ) κ (kcell ck.1 ck.2) : sProp 𝕄))) $$ HI
  icases HK with ⟨%K, #HI⟩
  ihave Htk := (duties_round (F := F)) $$ Htok
  iapply (bigSep_with_persistent (R := records m ρ K) fun c _ => ghost_intro m ρ K c)
  isplitr
  · unfold records; isplitl; · iexact HI
    iexact HR
  · simp only [bigSep_sep']
    isplitl [Hat]; · iexact Hat
    isplitl [Htk] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ fun c => iprop(∃ K, ghost m ρ K c) :=
  ((bigSep_mono fun c _ => core_alloc m ρ c).trans (bigSep_fupd _ _)).trans (BI.fupd_mono (regroup m ρ))

/-! ## What the launch lends -/

theorem credits_intro (c : Dev nD) : (Pipeline.launchCred O₀ c : sProp 𝕄) ⊢ credits c := by
  have hO : (O₀ : Dev nD → CellTallies nD τ sig Unit)
      = fun d => (∑ r : Fin 15, tallyAt (recvCell (ahead d r.succ) r) () N) + ∑ r : Fin 15, tallyAt (barCell (ahead d r.succ)) () 1 := by
    funext d
    unfold O₀ oweRecv oweBar
    rw [rest_zero, rest_zero]
  have hB : (bigSep Finset.univ fun _ : Fin 15 => (cred (tallyAt (barCell c) () 1) : sProp 𝕄)) ⊢ cred (tallyAt (barCell c) () 15) := by
    have h : ∀ S : Finset (Fin 15), (bigSep S fun _ => (cred (tallyAt (barCell c) () 1) : sProp 𝕄)) = cred (tallyAt (barCell c) () S.card) := fun S => by
      induction S using Finset.induction_on with
      | empty => rw [bigSep_empty, Finset.card_empty, tallyAt_zero, cred_zero]; rfl
      | insert a S ha ih =>
        rw [bigSep_insert ha, ih, Finset.card_insert_of_notMem ha, add_comm S.card 1, ← tallyAt_add]
        exact BI.Entails.antisymm (cred_add _ _).2 (cred_add _ _).1
    exact Entails.of_eq (h Finset.univ)
  rw [hO, Pipeline.launchCred_add, Pipeline.launchCred_sum, Pipeline.launchCred_sum]
  unfold credits
  iintro ⟨HV, HB⟩
  isplitl [HB]
  · iapply hB
    iapply (show (bigSep Finset.univ fun r : Fin 15 => Pipeline.launchCred (fun d : Dev nD => tallyAt ((ahead d r.succ : Thread nD τ), (.reg barS)) () 1) c)
        ⊢ (bigSep Finset.univ fun r : Fin 15 => cred (tallyAt ((c : Thread nD τ), (.reg barS)) () 1) : sProp 𝕄) from
      bigSep_mono fun r _ => Pipeline.launchCred_tallyAt (.reg barS) (ahead · r.succ) (behind · r.succ)
        (fun c => ahead_behind c r.succ) (fun d => behind_ahead d r.succ) () 1 c) $$ HB
  · iapply (show (bigSep Finset.univ fun r : Fin 15 => Pipeline.launchCred (fun d : Dev nD => tallyAt ((ahead d r.succ : Thread nD τ), (.dma (recvS r))) () N) c)
        ⊢ (bigSep Finset.univ fun r : Fin 15 => cred (tallyAt ((c : Thread nD τ), (.dma (recvS r))) () N) : sProp 𝕄) from
      bigSep_mono fun r _ => Pipeline.launchCred_tallyAt (.dma (recvS r)) (ahead · r.succ) (behind · r.succ)
        (fun c => ahead_behind c r.succ) (fun d => behind_ahead d r.succ) () N c) $$ HV

end Cert.RingMatmul

end
-- ==== Proof.Launch.lean ====
/-
# The launch

The program's run on the whole machine, from any memory with zero counters, at any float values: it ends, each
device's result holds what the body computes from the launch's arrays, the arguments are unchanged and every counter
is back at zero.
-/
module

public import proofs.«01_k».proof.Proof.Cells
public import Idealize.ShloMosaic.Lib.Pipeline.CollectiveSegs

@[expose] public section

noncomputable section

namespace Cert.RingMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem share_eq (c : Dev nD) (w : Fin cfg0.W) : (dats m ρ 0 c).share w = fullShare := by
  unfold Pipeline.Dat.share; split <;> rfl

/-- The launch's element: the windows' cells, the rounds', no transfer counted. -/
def u₀ : UU := (initOf (Pipeline.cells cfgs cellOf_inj) (Pipeline.launchToks cfgs cellOf_inj), (initOf allCells allToks, 1))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ (∃ K, ghost m ρ K c))
      ⊢ |={Set.univ}=> iprop(start m ρ c ∗ emp) := by
  rw [Pipeline.unscopedRestP_none, unscopedRest0_eq]
  iintro ⟨Hw, Hlev, Hcr, -, HG⟩
  ihave Hc := (credits_intro (F := F) c) $$ Hcr
  imodintro
  unfold start
  isplitl
  · isplitl [HG]; · iexact HG
    isplitl [Hc]; · iexact Hc
    isplitl [Hlev]; · iexact Hlev
    iexact Hw
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  unfold scratches
  iexact Hr

/-- What a device hands back beside its windows. -/
def leftOver (c : Dev nD) : sProp 𝕄 := iprop(unscopedSems0 c ∗ whole c main_arg1 (wAt m c))

theorem phi1_exit (c : Dev nD) :
    (dats m ρ 0 c).Φ (Fin.last cfg0.N) ⊢ iprop(leftOver m c ∗ Pipeline.ownSems0 osem c ∗ Pipeline.scopedRest cfg0.spec c) := by
  rw [show (dats m ρ 0 c).Φ (Fin.last cfg0.N) = Φ₁ m c from rfl, scopedRest0_eq, ownSems0_eq]
  unfold Φ₁ leftOver plain
  rw [unscopedSems0_eq]
  iintro ⟨Hr, HB, HS, HV, ⟨H0, H1, H2, H3⟩, Hw⟩
  isplitl [HB Hw]
  · isplitl [HB] <;> iassumption
  isplitl [HS HV H0 H1 H2 H3]
  · isplitl [HS HV H0 H1]
    · isplitl [HS H0]
      · isplitl [H0]; · iexact H0
        iexact HS
      · isplitl [H1]; · iexact H1
        iexact HV
    · isplitl [H2]; · iexact H2
      iexact H3
  unfold scratches
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_other c _ (by fin_cases w <;> fin_cases s <;> decide +kernel) _ (by
      rcases t with ⟨_ | _, ht⟩
      · exact Or.inl rfl
      · exact Or.inr rfl)

/-- The weights and the counters at the end. -/
def Rest (c : Dev nD) (s : MemSt nD τ sig (Elt F)) : Prop :=
  s.mem ((c : Thread nD τ).loc main_arg1) = wAt m c ∧ ∀ sm : SemLoc sig, sm.isScoped .tc = false → s.sem ((c.tc : Thread nD τ), sm) = 0

theorem leftOver_read (c : Dev nD) (s' : Phys nD τ sig (Elt F)) :
    iprop(leftOver m c ∗ emp ∗ SI s') ⊢ (|={Set.univ}=> iprop(⌜Rest m c s'.mem⌝ ∗ SI s') : sProp 𝕄) := by
  unfold leftOver
  iintro ⟨⟨Hu, Hw⟩, -, HSI⟩
  icombine HSI Hw gives %hw
  imod (Pipeline.unscopedSems0_read (X := unscopedSems0 c) (c := c) fupd_intro s') $$ [Hu HSI] with ⟨%hu, HSI⟩
  · isplitl [Hu] <;> iassumption
  imodintro
  isplitr
  · ipureintro; exact ⟨Buf.eq_of_forall_mem_univ hw, hu⟩
  iexact HSI

def finalA (c : Dev nD) (w : Fin cfg0.W) : Buf (Elt F) ((cfg0.win w).arr.view.loc (c : Thread nD τ)) := (dats m ρ 0 c).arrAt w cfg0.N

/-- What holds at the end of a run. -/
def Ends (r : PUnit × MemSt nD τ sig (Elt F)) : Prop :=
  ∀ c : Dev nD, (∀ w : Fin cfg0.W, r.2.mem ((cfg0.win w).arr.view.loc (c : Thread nD τ)) = finalA m ρ c w)
    ∧ r.2.mem ((c : Thread nD τ).loc main_arg1) = wAt m c

set_option maxRecDepth 65536 in
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _)
    (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := fun c => iprop(∃ K, ghost m ρ K c)) (u₀ := u₀)
    (hu₀ := by
      unfold u₀
      iintro Hu
      ihave H := (ownU_pair _ _) $$ Hu
      icases H with ⟨HP, HX⟩
      ihave H2 := (own_pair_emb _ _ _) $$ HX
      icases H2 with ⟨HX, -⟩
      imod (fund_cells m ρ) $$ HX with HG
      imodintro
      isplitl [HP] <;> iassumption)
    (hglob := glob m ρ)
    (hA := fun _ _ => rfl) (hpf := fun _ k => k.elim0)
    (X := start m ρ) (Y := leftOver m) (Z := fun _ => iprop(emp))
    (hX := start_intro m ρ) (hin := phi0_intro m ρ) (hout := phi1_exit m ρ)
    (QY := Rest m) (hY := leftOver_read m)
    (hQ := fun _ h hs => ⟨fun c => ⟨fun w => (h c).1 w, (h c).2.2.1⟩, sem_eq_zero hs fun c => (h c).2.2.2⟩)

/-- The inputs' arrays hold at the end what they held. -/
theorem finalA_in (c : Dev nD) (w : Fin cfg0.W) (hw : (cfg0.win w).isOut = false) :
    finalA m ρ c w = (s₀ m ρ).mem ((cfg0.win w).arr.view.loc (c : Thread nD τ)) :=
  (dats m ρ 0 c).arrAt_in w hw _

end Cert.RingMatmul

end
-- ==== Proof.Product.lean ====
/-
# The sum of the block products

In exact arithmetic the device's running sum after its last peer is one entry of the whole product: sixteen sums over
the columns of a block, taken in the order of the peers, are the sum over all columns.
-/
module

public import proofs.«01_k».proof.Proof.Contents
public import Idealize.ShloMosaic.Lib.KernelVsHost
public import Idealize.ShloMosaic.Lib.StackMember

@[expose] public section

noncomputable section

namespace Cert.RingMatmul

open Cert.KernelIdeal Cert.KernelIdeal.Gen
open Idealize.ShloMosaic Idealize.ShloMosaic.TcCoe Idealize.SL.Sem
open Idealize.ShloMosaic.ValueIdx
open scoped BigOperators

variable (m : (ℓ : Loc nD τ sig) → Buf (Elt Ideal) ℓ) (ρ : Dev nD → PrngReg)

/-! ## Indices -/

/-- Position `k` of block `e`, among all. -/
def inBlock (e : Fin 16) (k : Fin 256) : Fin 4096 := ⟨256 * e.val + k.val, by have := e.isLt; have := k.isLt; omega⟩

/-- The blocks' positions are all the positions, each once. -/
def blockEquiv : Fin 16 × Fin 256 ≃ Fin 4096 where
  toFun x := inBlock x.1 x.2
  invFun K := (⟨K.val / 256, by have := K.isLt; omega⟩, ⟨K.val % 256, by omega⟩)
  left_inv := by
    rintro ⟨e, k⟩
    have := e.isLt; have := k.isLt
    apply Prod.ext <;> apply Fin.ext <;> simp only [inBlock] <;> omega
  right_inv K := by apply Fin.ext; simp only [inBlock]; omega

/-- The distance back from `c`, as a numbering of the devices. -/
def backEquiv (c : Dev nD) : Fin 16 ≃ Dev nD where
  toFun := behind c
  invFun := behind c
  left_inv d := by apply Fin.ext; have := c.isLt; have := d.isLt; simp only [behind, nD] at *; omega
  right_inv d := by apply Fin.ext; have := c.isLt; have := d.isLt; simp only [behind, nD] at *; omega

/-- So a sum over all positions is a sum of the blocks' sums, in the order of the peers. -/
theorem sum_blocks {M : Type} [AddCommMonoid M] (c : Dev nD) (f : Fin 4096 → M) :
    ∑ b : Fin 16, ∑ k : Fin 256, f (inBlock (behind c b) k) = ∑ K, f K := by
  rw [← Equiv.sum_comp blockEquiv f, Fintype.sum_prod_type]
  exact Equiv.sum_comp (backEquiv c) fun e => ∑ k : Fin 256, f (inBlock e k)

/-! ## Reading the slabs -/

/-- Rounding changes nothing here: the kept operand is the operand. -/
theorem eAt_apply (c : Dev nD) (i : S4096x256.Idx) : eAt m ρ c i = m ((c : Thread nD τ).loc main_arg0) i := by
  have hx : xAt m ρ c = m ((c : Thread nD τ).loc main_arg0) := by
    unfold xAt
    exact Memref.read_access_unit_zero (Elt Ideal) main_arg0 (funext fun a => by fin_cases a <;> rfl) _ _
  unfold eAt k0_pay1
  rw [hx]
  simp only [shapeCast_self]
  rfl

theorem sxAt_eq (c : Dev nD) : sxAt m ρ c = m ((c : Thread nD τ).loc main_arg2) := by
  unfold sxAt
  exact Memref.read_access_unit_zero (Elt Ideal) main_arg2 (funext fun a => by fin_cases a <;> rfl) _ _
theorem swAt_eq (c : Dev nD) : swAt m ρ c = m ((c : Thread nD τ).loc main_arg3) := by
  unfold swAt
  exact Memref.read_access_unit_zero (Elt Ideal) main_arg3 (funext fun a => by fin_cases a <;> rfl) _ _

/-- The slab a device keeps holds its own rows; -/
theorem slabOwn_apply (c : Dev nD) (i k : Fin 256) :
    slabOwn m ρ c (ix2 i k) = m ((c : Thread nD τ).loc main_arg0) (ix2 (inBlock c i) k) := by
  rw [← eAt_apply m ρ c]
  unfold slabOwn
  refine congrArg (eAt m ρ c) ?_
  funext a; apply Fin.ext
  match a with
  | ⟨0, _⟩ => show k0_off3 c 0 + 1 * i.val = 256 * c.val + i.val; rw [off3_eq]; show 256 * c.val + 1 * i.val = _; omega
  | ⟨1, _⟩ => show k0_off3 c 1 + 1 * k.val = k.val; rw [off3_eq]; show 0 + 1 * k.val = _; omega

/-- the slab a peer sends holds the receiver's rows of the peer's operand; -/
theorem slabIn_apply (c : Dev nD) (r : Fin 15) (i k : Fin 256) :
    slabIn m ρ c r (ix2 i k) = m ((prv c r : Thread nD τ).loc main_arg0) (ix2 (inBlock c i) k) := by
  rw [← eAt_apply m ρ (prv c r)]
  unfold slabIn slabOut
  refine congrArg (eAt m ρ (prv c r)) ?_
  have hn : nxt (prv c r) r = c := ahead_behind c r.succ
  funext a; apply Fin.ext
  match a with
  | ⟨0, _⟩ => show k0_off1 (prv c r) _ 0 + 1 * i.val = 256 * c.val + i.val; rw [off1_eq, hn]; show 256 * c.val + 1 * i.val = _; omega
  | ⟨1, _⟩ => show k0_off1 (prv c r) (BitVec.ofNat 32 (1 + r.val)) 1 + 1 * k.val = k.val; rw [off1_eq]; show 0 + 1 * k.val = _; omega

/-- and the block of weights fetched for it holds the rows that the peer's columns meet. -/
theorem rowsIn_apply (c : Dev nD) (b : Fin 16) (k : Fin 256) (j : Fin 8192) :
    rowsIn m c b (ix2 k j) = m ((c : Thread nD τ).loc main_arg1) (ix2 (inBlock (behind c b) k) j) := by
  unfold rowsIn wAt
  refine congrArg (m ((c : Thread nD τ).loc main_arg1)) ?_
  funext a; apply Fin.ext
  match a with
  | ⟨0, _⟩ => show k0_off2 c _ 0 + 1 * k.val = 256 * (behind c b).val + k.val; rw [off2_eq]; show 256 * (behind c b).val + 1 * k.val = _; omega
  | ⟨1, _⟩ => show k0_off2 c (BitVec.ofNat 32 b.val) 1 + 1 * j.val = j.val; rw [off2_eq]; show 0 + 1 * j.val = _; omega

/-! ## The running sum -/

theorem prod_apply (A : FVec Ideal S256x256 .fp8e4m3) (B : FVec Ideal S256x8192 .f32) (i : Fin 256) (j : Fin 8192) :
    prod A B (ix2 i j) = ∑ k : Fin 256, A (ix2 i k) * B (ix2 k j) := by
  unfold prod
  rw [matmul_zero_eq_dotGeneral]
  exact StackMember.dotGeneral_plain_apply (m := 256) (n := 8192) (k := 256) none A (truncf .fp8e5m2 B bitsLt_fp8e5m2_f32) i j

/-- A device's operand and its weights, as tables of extended reals. -/
def opd (c : Dev nD) (i : S4096x256.Idx) : EReal := m ((c : Thread nD τ).loc main_arg0) i
def wgt (c : Dev nD) (i : S4096x8192.Idx) : EReal := m ((c : Thread nD τ).loc main_arg1) i

/-- What peer `b` places back adds to entry `(i, j)`. -/
def share (c : Dev nD) (i : Fin 256) (j : Fin 8192) (b : Fin 16) : EReal :=
  ∑ k : Fin 256, opd m (behind c b) (ix2 (inBlock c i) k) * wgt m c (ix2 (inBlock (behind c b) k) j)

theorem own_share (c : Dev nD) (i : Fin 256) (j : Fin 8192) : prod (slabOwn m ρ c) (rowsIn m c 0) (ix2 i j) = share m c i j 0 := by
  rw [prod_apply]; unfold share
  refine Finset.sum_congr rfl fun k _ => ?_
  rw [slabOwn_apply, rowsIn_apply, behind_zero]; rfl
theorem in_share (c : Dev nD) (i : Fin 256) (j : Fin 8192) (r : Fin 15) :
    prod (slabIn m ρ c r) (rowsIn m c r.succ) (ix2 i j) = share m c i j r.succ := by
  rw [prod_apply]; unfold share
  refine Finset.sum_congr rfl fun k _ => ?_
  rw [slabIn_apply, rowsIn_apply]; rfl

theorem sumAt_apply (c : Dev nD) (i : Fin 256) (j : Fin 8192) (n : Fin 16) :
    sumAt m ρ c n (ix2 i j) = ∑ b ∈ Finset.Iic n, share m c i j b := by
  induction n using Fin.induction with
  | zero =>
    rw [sumAt_zero, own_share, show Finset.Iic (0 : Fin 16) = {0} from by decide, Finset.sum_singleton]
  | succ r ih =>
    have hI : Finset.Iic r.succ = insert r.succ (Finset.Iic r.castSucc) := by
      ext b; simp only [Finset.mem_Iic, Finset.mem_insert, Fin.le_def, Fin.ext_iff, Fin.val_succ, Fin.val_castSucc]; omega
    have hn : r.succ ∉ Finset.Iic r.castSucc := by
      simp only [Finset.mem_Iic, Fin.le_def, Fin.val_succ, Fin.val_castSucc]; omega
    rw [sumAt_succ, hI, Finset.sum_insert hn, ← ih, ← in_share m ρ, add_comm]
    unfold addProd
    rw [shapeCast_self]
    rfl

end Cert.RingMatmul

end
-- ==== Proof.Value.lean ====
/-
# The values and the claims

The array a device leaves is its block of rows of the reference's result, and what each claim says follows from the
runs.
-/
module

public import proofs.«01_k».proof.Defs
public import proofs.«01_k».proof.Proof.Launch
public import proofs.«01_k».proof.Proof.Product
public import proofs.«01_k».proof.Proof.Gen.Kernel
public import proofs.«01_k».proof.Proof.Gen.ReferenceIdeal
public import proofs.«01_k».proof.Proof.Gen.ReferenceIdeal.Run
public import Idealize.ShloMosaic.Lib.Pipeline.Value

@[expose] public section

noncomputable section

namespace Cert.RingMatmul

open Cert.KernelIdeal Cert.KernelIdeal.Gen
open Idealize.ShloMosaic Idealize.ShloMosaic.TcCoe Idealize.SL.Sem
open Idealize.ShloMosaic.ValueIdx
open scoped BigOperators

section Run

variable {F : FTy → Type} [FloatOps F]
variable (m : (ℓ : Loc nD τ sig) → Buf (Elt F) ℓ) (ρ : Dev nD → PrngReg)

/-! ## The array a device leaves -/

/-- The one block written back is the whole array. -/
theorem final_out (c : Dev nD) : finalA m ρ c 3 = outAt m ρ c := by
  refine (dats m ρ 0 c).arrAt_eq_of_cover 3 (outAt m ρ c) (fun t _ => ?_) fun i => ⟨t₀, flush0_3 t₀, ?_⟩
  · rw [fin_N t]
    exact (Memref.read_access_unit_zero (Elt F) main_v1 (funext fun a => by fin_cases a <;> rfl) _ _).symm
  · show i ∈ ((View.whole main_v1).slice (win0_3.rect t₀)).set
    rw [View.set_slice_whole, Rect.mem_set_unit]
    intro a
    match a with
    | ⟨0, _⟩ =>
      have h : (i 0).val < 256 := (i 0).isLt
      show win0_3.index t₀ 0 * win0_3.size 0 ≤ (i 0).val ∧ (i 0).val < win0_3.index t₀ 0 * win0_3.size 0 + win0_3.xsize (grid0.coords t₀) 0
      rw [show win0_3.index t₀ 0 * win0_3.size 0 = 0 from by decide +kernel, show win0_3.xsize (grid0.coords t₀) 0 = 256 from by decide +kernel]; omega
    | ⟨1, _⟩ =>
      have h : (i 1).val < 8192 := (i 1).isLt
      show win0_3.index t₀ 1 * win0_3.size 1 ≤ (i 1).val ∧ (i 1).val < win0_3.index t₀ 1 * win0_3.size 1 + win0_3.xsize (grid0.coords t₀) 1
      rw [show win0_3.index t₀ 1 * win0_3.size 1 = 0 from by decide +kernel, show win0_3.xsize (grid0.coords t₀) 1 = 8192 from by decide +kernel]; omega

/-- The whole run: the result computed, the arguments unchanged, every counter at zero. -/
theorem run_all : θ_run defs (onTc (τ := τ) (main (F := F))) ⟨m, fun _ => 0, ρ⟩ fun r =>
    (∀ c : Dev nD, r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0 :=
  (θ_run defs _ _).mono (fun _ h => ⟨fun c => ⟨((h.1 c).1 3).trans (final_out m ρ c), ((h.1 c).1 0).trans (finalA_in m ρ c 0 rfl),
    (h.1 c).2, ((h.1 c).1 1).trans (finalA_in m ρ c 1 rfl), ((h.1 c).1 2).trans (finalA_in m ρ c 2 rfl)⟩, h.2⟩) (run_main m ρ)

end Run

/-! ## The reference's result -/

/-- The reference's result, of its arguments. -/
def refOut (X : FVec Ideal Cert.ReferenceIdeal.S4096x4096 .f32) (W : FVec Ideal Cert.ReferenceIdeal.S4096x8192 .f32)
    (a b : FVec Ideal Cert.ReferenceIdeal.S1 .f32) : FVec Ideal Cert.ReferenceIdeal.S4096x8192 .f32 :=
  maximumf (mulf (Host.dotGeneral (DotDims.plain 4096 4096 8192) none X W) fun _ => mulf a b (ix1 0)) fun _ => 0

theorem refOut_apply (X : FVec Ideal Cert.ReferenceIdeal.S4096x4096 .f32) (W : FVec Ideal Cert.ReferenceIdeal.S4096x8192 .f32)
    (a b : FVec Ideal Cert.ReferenceIdeal.S1 .f32) (i : Fin 4096) (j : Fin 8192) :
    refOut X W a b (ix2 i j) = max ((∑ k : Fin 4096, X (ix2 i k) * W (ix2 k j)) * (a (ix1 0) * b (ix1 0))) 0 := by
  have h := StackMember.dotGeneral_plain_apply (m := 4096) (n := 8192) (k := 4096) none X W i j
  rw [← h]
  rfl

open Cert.ReferenceIdeal.Gen in
theorem ref_term (X : FVec Ideal Cert.ReferenceIdeal.S4096x4096 .f32) (W : FVec Ideal Cert.ReferenceIdeal.S4096x8192 .f32)
    (a b : FVec Ideal Cert.ReferenceIdeal.S1 .f32) :
    maximumf (mulf (Host.dotGeneral Cert.ReferenceIdeal.dot_S4096x4096_S4096x8192_S4096x8192_1_0_0_1_n_n none X W)
      (broadcastInDim Cert.ReferenceIdeal.S4096x8192 ![0, 1] Cert.ReferenceIdeal.Facts₀.bcast_S1x1_S4096x8192_0_1
        (broadcastInDim Cert.ReferenceIdeal.S1x1 ![1] Cert.ReferenceIdeal.Facts₀.bcast_S1_S1x1_1 (mulf a b))))
      (broadcastInDim Cert.ReferenceIdeal.S4096x8192 ![] Cert.ReferenceIdeal.Facts₀.bcast_S_S4096x8192 (constant Cert.ReferenceIdeal.S_ .f32 0x00000000#32))
    = refOut X W a b := by
  unfold refOut
  refine congrArg₂ maximumf (congrArg₂ mulf rfl (funext fun i => congrArg (mulf a b) ?_)) (funext fun i => ?_)
  · funext d; fin_cases d; rfl
  · show Ideal.ofBits .f32 0x00000000#32 = 0
    simp

/-! ## The block of a device -/

/-- From a device's block of the operand, and the weights and scales: its array is its block of the reference's result. -/
theorem out_block (m : (ℓ : Loc nD τ sig) → Buf (Elt Ideal) ℓ) (ρ : Dev nD → PrngReg)
    (X : FVec Ideal Cert.ReferenceIdeal.S4096x4096 .f32) (W : FVec Ideal Cert.ReferenceIdeal.S4096x8192 .f32)
    (a b : FVec Ideal Cert.ReferenceIdeal.S1 .f32)
    (hX : ∀ c : Dev nD, m ((c : Thread nD τ).loc main_arg0) = Layout.block ⟨2, ![4096, 256]⟩ ⟨2, ![4096, 4096]⟩ 1 16 c X)
    (c : Dev nD) (hW : m ((c : Thread nD τ).loc main_arg1) = W) (ha : m ((c : Thread nD τ).loc main_arg2) = a)
    (hb : m ((c : Thread nD τ).loc main_arg3) = b) :
    outAt m ρ c = Layout.block ⟨2, ![256, 8192]⟩ ⟨2, ![4096, 8192]⟩ 0 16 c (refOut X W a b) := by
  have hop (e : Dev nD) (i : Fin 4096) (k : Fin 256) : opd m e (ix2 i k) = X (ix2 i (inBlock e k)) := by
    unfold opd; rw [hX e]
    refine congrArg X ?_
    funext d; apply Fin.ext
    match d with
    | ⟨0, _⟩ => rfl
    | ⟨1, _⟩ => show e.val * 256 + k.val = 256 * e.val + k.val; omega
  funext ij
  obtain ⟨i, j, rfl⟩ : ∃ (i : Fin 256) (j : Fin 8192), ij = ix2 i j := ⟨ij 0, ij 1, eq_ix2 ij⟩
  have hR : Layout.block ⟨2, ![256, 8192]⟩ ⟨2, ![4096, 8192]⟩ 0 16 c (refOut X W a b) (by decide) (ix2 i j) = refOut X W a b (ix2 (inBlock c i) j) := by
    refine congrArg (refOut X W a b) ?_
    funext d; apply Fin.ext
    match d with
    | ⟨0, _⟩ => show c.val * 256 + i.val = 256 * c.val + i.val; omega
    | ⟨1, _⟩ => rfl
  have hL : outAt m ρ c (ix2 i j) = max (sumAt m ρ c 15 (ix2 i j) * (a (ix1 0) * b (ix1 0))) 0 := by
    have h0 : (at0 : S1.Idx) = ix1 0 := by funext d; fin_cases d; rfl
    unfold outAt
    rw [sxAt_eq, swAt_eq, ha, hb, h0]
    unfold k0_pay21 k0_pay22
    rw [shapeCast_self]
    show max _ (Ideal.ofBits .f32 0x00000000#32) = _
    simp
    rfl
  rw [hR, hL, refOut_apply, sumAt_apply, show Finset.Iic (15 : Fin 16) = Finset.univ from by decide,
    ← sum_blocks c fun K => X (ix2 (inBlock c i) K) * W (ix2 K j)]
  refine congrArg (fun s => max (s * _) 0) (Finset.sum_congr rfl fun d _ => Finset.sum_congr rfl fun k _ => ?_)
  rw [hop]
  unfold wgt
  rw [hW]

/-! ## The claims -/

theorem frame_ideal : Cert.quiescent_KernelIdeal (hKernelIdeal := Cert.KernelIdeal.Gen.facts) := fun m ρ _ =>
  (θ_run defs _ _).mono (fun _ h => ⟨fun c => (h.1 c).2, h.2⟩) (run_all m ρ)

/-- The reference has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

theorem values : Cert.algebraic_KernelIdeal_ReferenceIdeal (hKernelIdeal := Cert.KernelIdeal.Gen.facts) (hReferenceIdeal := Cert.ReferenceIdeal.Gen.facts) := by
  intro m ρ m' ρ' _ hm
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · refine (θ_run defs _ _).mono (fun _ h c => ⟨(h.1 c).1.trans ?_, (h.1 c).2⟩) (run_all m ρ)
    exact out_block m ρ _ _ _ _ (fun e => (hm e).1) c (hm c).2.1 (hm c).2.2.1 (hm c).2.2.2
  · exact (θ_run Cert.ReferenceIdeal.defs _ _).mono (fun _ h => ⟨(h 0).1.trans (ref_term _ _ _ _), (h 0).2⟩)
      (Cert.ReferenceIdeal.Value.run m' ρ')

end Cert.RingMatmul

end
-- ==== Proof.Same.lean ====
/-
# The program as printed

The program as printed and its reading in exact arithmetic are one text, so what is proved of the second at any float
values holds of the first at its own.
-/
module

public import proofs.«01_k».proof.Proof.Value
public import Idealize.ShloMosaic.Lib.Tactic

@[expose] public section

noncomputable section

namespace Cert.RingMatmul

open Cert.KernelIdeal Cert.KernelIdeal.Gen
open Idealize.ShloMosaic Idealize.ShloMosaic.TcCoe Idealize.ShloMosaic.Tactic Idealize.SL.Sem

/-- From every memory the kernel returns with its four arguments unchanged and no count left on any semaphore, its floats being `F`. -/
def Still (F : FTy → Type) [FloatOps F] : Prop :=
  ∀ (m : (ℓ : Loc nD τ sig) → Buf (Elt F) ℓ) (ρ : Dev nD → PrngReg), True →
    θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0

theorem still (F : FTy → Type) [FloatOps F] : Still F := fun m ρ _ =>
  (θ_run defs _ _).mono (fun _ h => ⟨fun c => (h.1 c).2, h.2⟩) (run_all m ρ)

/-- The two texts say the same. -/
theorem printed_still : Cert.quiescent_Kernel (hKernel := Cert.Kernel.Gen.facts) = Still Bits := by
  sl_kernel_rfl

theorem frame_kernel : Cert.quiescent_Kernel (hKernel := Cert.Kernel.Gen.facts) := printed_still.mpr (still Bits)

end Cert.RingMatmul

end
-- ==== Proof.lean ====
/-
# The certificate

The kernel's frame at its own floats and over the extended reals, the reference's frame, that the ideal program is the
kernel over the extended reals, and that the two compute the same function there: device `c` is left with block `c` of
the rows of the reference's result. The modules under Proof/ prove each; here they are put together.
-/
module

public import proofs.«01_k».proof.Defs
public import proofs.«01_k».proof.Proof.Same
public import proofs.«01_k».proof.Proof.Value

@[expose] public section

noncomputable section

namespace Cert.Proof

open Cert.RingMatmul

/-- Everything that is claimed. -/
theorem claim : Cert.Claim :=
  ⟨Cert.Kernel.Gen.facts, Cert.KernelIdeal.Gen.facts, Cert.ReferenceIdeal.Gen.facts,
    frame_kernel, frame_ideal, frame_reference, trivial, values⟩

end Cert.Proof

end
